-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S12x64x2x32 : Shape := ⟨4, ![12, 64, 2, 32]⟩
abbrev S2048x768 : Shape := ⟨2, ![2048, 768]⟩
abbrev S12x64x64 : Shape := ⟨3, ![12, 64, 64]⟩
abbrev S12x2048x2 : Shape := ⟨3, ![12, 2048, 2]⟩
abbrev S12x2x2048 : Shape := ⟨3, ![12, 2, 2048]⟩
abbrev S2048x128 : Shape := ⟨2, ![2048, 128]⟩
abbrev S2x64x64 : Shape := ⟨3, ![2, 64, 64]⟩
abbrev S2x2048x2 : Shape := ⟨3, ![2, 2048, 2]⟩
abbrev S2x2x2048 : Shape := ⟨3, ![2, 2, 2048]⟩
abbrev S64x2048 : Shape := ⟨2, ![64, 2048]⟩
abbrev S64x1 : Shape := ⟨2, ![64, 1]⟩
abbrev S2048x64 : Shape := ⟨2, ![2048, 64]⟩
abbrev S1x64x64 : Shape := ⟨3, ![1, 64, 64]⟩
abbrev S64x64 : Shape := ⟨2, ![64, 64]⟩
abbrev S32x2048 : Shape := ⟨2, ![32, 2048]⟩
abbrev S2048 : Shape := ⟨1, ![2048]⟩
abbrev S1x2048 : Shape := ⟨2, ![1, 2048]⟩
abbrev S2048x1 : Shape := ⟨2, ![2048, 1]⟩
abbrev S1x1x2048 : Shape := ⟨3, ![1, 1, 2048]⟩
abbrev S1x2x2048 : Shape := ⟨3, ![1, 2, 2048]⟩
abbrev S1x2048x1 : Shape := ⟨3, ![1, 2048, 1]⟩
abbrev S1x12x2048x2048 : Shape := ⟨4, ![1, 12, 2048, 2048]⟩
abbrev S1x2048x2 : Shape := ⟨3, ![1, 2048, 2]⟩
abbrev S1x1x2048x2048 : Shape := ⟨4, ![1, 1, 2048, 2048]⟩
abbrev S2048x2048 : Shape := ⟨2, ![2048, 2048]⟩
abbrev S_ : Shape := ⟨0, ![]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x768, .f32⟩
  | .hbm, ⟨1, _⟩ => ⟨S12x64x2x32, .f32⟩
  | .hbm, ⟨2, _⟩ => ⟨S2048x768, .f32⟩
  | .hbm, ⟨3, _⟩ => ⟨S12x64x64, .f32⟩
  | .hbm, ⟨4, _⟩ => ⟨S12x2048x2, .i16⟩
  | .hbm, ⟨5, _⟩ => ⟨S12x2x2048, .i16⟩
  | .hbm, ⟨6, _⟩ => ⟨S1x12x2048x2048, .i8⟩
  | .hbm, ⟨7, _⟩ => ⟨S_, .i8⟩
  | .hbm, ⟨8, _⟩ => ⟨S1x12x2048x2048, .i8⟩
  | .hbm, ⟨9, _⟩ => ⟨S1x12x2048x2048, .i1⟩
  | .hbm, ⟨10, _⟩ => ⟨S1x12x2048x2048, .i1⟩
  | .local _ .vmem, ⟨0, _⟩ => ⟨S2048x128, .f32⟩
  | .local _ .vmem, ⟨1, _⟩ => ⟨S2048x128, .f32⟩
  | .local _ .vmem, ⟨2, _⟩ => ⟨S2x64x64, .f32⟩
  | .local _ .vmem, ⟨3, _⟩ => ⟨S2x64x64, .f32⟩
  | .local _ .vmem, ⟨4, _⟩ => ⟨S2x2048x2, .i16⟩
  | .local _ .vmem, ⟨5, _⟩ => ⟨S2x2048x2, .i16⟩
  | .local _ .vmem, ⟨6, _⟩ => ⟨S2x2x2048, .i16⟩
  | .local _ .vmem, ⟨7, _⟩ => ⟨S2x2x2048, .i16⟩
  | .local _ .vmem, ⟨8, _⟩ => ⟨S1x2048x2, .i16⟩
  | .local _ .vmem, ⟨9, _⟩ => ⟨S1x2048x2, .i16⟩
  | .local _ .vmem, ⟨10, _⟩ => ⟨S1x2x2048, .i16⟩
  | .local _ .vmem, ⟨11, _⟩ => ⟨S1x2x2048, .i16⟩
  | .local _ .vmem, ⟨12, _⟩ => ⟨S1x1x2048x2048, .i8⟩
  | .local _ .vmem, ⟨13, _⟩ => ⟨S1x1x2048x2048, .i8⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x2 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2x2048 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x2048x2 .i16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2x2048 .i16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048x2048 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1x2048x768 : Shape := ⟨3, ![1, 2048, 768]⟩
abbrev S12x64x2x32 : Shape := ⟨4, ![12, 64, 2, 32]⟩
abbrev S1x2048x12x64 : Shape := ⟨4, ![1, 2048, 12, 64]⟩
abbrev S1x12x2048x64 : Shape := ⟨4, ![1, 12, 2048, 64]⟩
abbrev S12x2x32x1x2048 : Shape := ⟨5, ![12, 2, 32, 1, 2048]⟩
abbrev S1x12x2x2048x32 : Shape := ⟨5, ![1, 12, 2, 2048, 32]⟩
abbrev S1x12x2x2048x64 : Shape := ⟨5, ![1, 12, 2, 2048, 64]⟩
abbrev S_ : Shape := ⟨0, ![]⟩
abbrev S1x12x2x2048 : Shape := ⟨4, ![1, 12, 2, 2048]⟩
abbrev S1x12x2048x2 : Shape := ⟨4, ![1, 12, 2048, 2]⟩
abbrev S1x12x2048x1x2 : Shape := ⟨5, ![1, 12, 2048, 1, 2]⟩
abbrev S1x12x1x2048x2 : Shape := ⟨5, ![1, 12, 1, 2048, 2]⟩
abbrev S1x12x2048x2048x2 : Shape := ⟨5, ![1, 12, 2048, 2048, 2]⟩
abbrev S1x12x2048x2048 : Shape := ⟨4, ![1, 12, 2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S12x64x2x32, .f32⟩
  | .hbm, ⟨2, _⟩ => ⟨S1x2048x12x64, .f32⟩
  | .hbm, ⟨3, _⟩ => ⟨S1x12x2048x64, .f32⟩
  | .hbm, ⟨4, _⟩ => ⟨S12x2x32x1x2048, .f32⟩
  | .hbm, ⟨5, _⟩ => ⟨S1x12x2x2048x32, .f32⟩
  | .hbm, ⟨6, _⟩ => ⟨S1x12x2x2048x32, .f32⟩
  | .hbm, ⟨7, _⟩ => ⟨S1x12x2x2048x64, .f32⟩
  | .hbm, ⟨8, _⟩ => ⟨S1x12x2x2048x64, .i32⟩
  | .hbm, ⟨9, _⟩ => ⟨S_, .f32⟩
  | .hbm, ⟨10, _⟩ => ⟨S_, .i32⟩
  | .hbm, ⟨11, _⟩ => ⟨S1x12x2x2048, .f32⟩
  | .hbm, ⟨12, _⟩ => ⟨S1x12x2x2048, .i32⟩
  | .hbm, ⟨13, _⟩ => ⟨S1x12x2048x2, .i32⟩
  | .hbm, ⟨14, _⟩ => ⟨S1x12x2048x1x2, .i32⟩
  | .hbm, ⟨15, _⟩ => ⟨S1x12x1x2048x2, .i32⟩
  | .hbm, ⟨16, _⟩ => ⟨S1x12x2048x2048x2, .i32⟩
  | .hbm, ⟨17, _⟩ => ⟨S1x12x2048x2048x2, .i32⟩
  | .hbm, ⟨18, _⟩ => ⟨S1x12x2048x2048x2, .i1⟩
  | .hbm, ⟨19, _⟩ => ⟨S_, .i1⟩
  | .hbm, ⟨20, _⟩ => ⟨S1x12x2048x2048, .i1⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.KernelIdealRows.lean ====
/-
  What the bucket kernel's stores leave in its two output buffers, read back at an index: each row store reads a two-row block,
  replaces one of its rows and writes the block back, each column store writes its column.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.ValueKit
public import Idealize.ShloMosaic.Lib.WritesUnit
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

/-- The two rows of head `a`'s block, whole. -/
abbrev pairL : Rect S2x2x2048 := Rect.unit (s := S2x2x2048) ![0, 0, 0] S1x2x2048.size inb_S2x2x2048_S1x2x2048_0_0_0
/-- The second head's half of the row block. -/
abbrev pairR : Rect S2x2x2048 := Rect.unit (s := S2x2x2048) ![1, 0, 0] S1x2x2048.size inb_S2x2x2048_S1x2x2048_1_0_0

/-- Row `y 1` of head `y 0` among four given rows. -/
def rowsOf (p00 p01 p10 p11 : Vec F S1x1x2048 .i16) : Vec F S2x2x2048 .i16 := fun y =>
  if (y 0).val = 0 then (if (y 1).val = 0 then p00 (ix3 0 0 (y 2)) else p01 (ix3 0 0 (y 2)))
  else (if (y 1).val = 0 then p10 (ix3 0 0 (y 2)) else p11 (ix3 0 0 (y 2)))

/-- Two row stores over any contents `o` of a block leave its two rows. -/
theorem twoRows (o : Vec F S1x2x2048 .i16) (p q : Vec F S1x1x2048 .i16) (z : S1x2x2048.Idx) :
    updateSlice (updateSlice o p ![0, 0, 0] slices_S1x2x2048_S1x1x2048_0_0_0) q ![0, 1, 0] slices_S1x2x2048_S1x1x2048_0_1_0 z
      = if (z 1).val = 0 then p (ix3 0 0 (z 2)) else q (ix3 0 0 (z 2)) := by
  have h1 : (z 1).val < 2 := (z 1).isLt
  pointwise
  by_cases h : (z 1).val = 0
  · rw [dif_neg (by omega), dif_pos (by omega), if_pos h]
    congr 2; exact Fin.ext h
  · rw [dif_pos (by omega), if_neg h]
    congr 2; exact Fin.ext (show (z 1).val - 1 = 0 by omega)

/-- Four row stores, two per head, each made by reading the head's block, replacing one row and writing the block back, leave the four
    rows whatever the buffer held before. -/
theorem rowsWritten {sp : Space} (v : View sig .tc sp S2x2x2048 .i16) (f : v.ty.Contents (Elt F)) (o0 o1 : Vec F S1x2x2048 .i16) (p00 p01 p10 p11 : Vec F S1x1x2048 .i16) :
    v.read (Elt F) (v.writes (Elt F) f [
      ⟨pairR, updateSlice (v.readCov [
        ⟨pairR, updateSlice o1 p10 ![0, 0, 0] slices_S1x2x2048_S1x1x2048_0_0_0⟩,
        ⟨pairL, updateSlice (v.readCov [⟨pairL, updateSlice o0 p00 ![0, 0, 0] slices_S1x2x2048_S1x1x2048_0_0_0⟩] pairL.toLoadRect) p01 ![0, 1, 0] slices_S1x2x2048_S1x1x2048_0_1_0⟩,
        ⟨pairL, updateSlice o0 p00 ![0, 0, 0] slices_S1x2x2048_S1x1x2048_0_0_0⟩] pairR.toLoadRect) p11 ![0, 1, 0] slices_S1x2x2048_S1x1x2048_0_1_0⟩,
      ⟨pairR, updateSlice o1 p10 ![0, 0, 0] slices_S1x2x2048_S1x1x2048_0_0_0⟩,
      ⟨pairL, updateSlice (v.readCov [⟨pairL, updateSlice o0 p00 ![0, 0, 0] slices_S1x2x2048_S1x1x2048_0_0_0⟩] pairL.toLoadRect) p01 ![0, 1, 0] slices_S1x2x2048_S1x1x2048_0_1_0⟩,
      ⟨pairL, updateSlice o0 p00 ![0, 0, 0] slices_S1x2x2048_S1x1x2048_0_0_0⟩]) = rowsOf p00 p01 p10 p11 := by
  rw [View.readCov_cons_toLoadRect, View.readCov_cons_toLoadRect]
  funext y
  have h0 : (y 0).val < 2 := (y 0).isLt
  by_cases hR : (y 0).val = 0
  · rw [View.read_writes_cons_unit_of_not_mem (heq := rfl) (a := 0) (ha := Or.inl (show (y 0).val < 1 by omega)),
      View.read_writes_cons_unit_of_not_mem (heq := rfl) (a := 0) (ha := Or.inl (show (y 0).val < 1 by omega)),
      View.read_writes_cons_unit_of_mem (heq := rfl) (x := ix3 0 (y 1) (y 2)) (hx := by
        intro a; fin_cases a
        · exact hR
        · exact (Nat.zero_add _).symm
        · exact (Nat.zero_add _).symm)]
    refine (twoRows o0 p00 p01 (ix3 0 (y 1) (y 2))).trans ?_
    unfold rowsOf; rw [if_pos hR]; rfl
  · rw [View.read_writes_cons_unit_of_mem (heq := rfl) (x := ix3 0 (y 1) (y 2)) (hx := by
        intro a; fin_cases a
        · exact (show (y 0).val = 1 + 0 by omega)
        · exact (Nat.zero_add _).symm
        · exact (Nat.zero_add _).symm)]
    refine (twoRows o1 p10 p11 (ix3 0 (y 1) (y 2))).trans ?_
    unfold rowsOf; rw [if_neg hR]; rfl

/-- The four columns, one per head (`y 0`) and hash (`y 2`). -/
def colsOf (p00 p01 p10 p11 : Vec F S1x2048x1 .i16) : Vec F S2x2048x2 .i16 := fun y =>
  if (y 0).val = 0 then (if (y 2).val = 0 then p00 (ix3 0 (y 1) 0) else p01 (ix3 0 (y 1) 0))
  else (if (y 2).val = 0 then p10 (ix3 0 (y 1) 0) else p11 (ix3 0 (y 1) 0))

/-- Four column stores leave the four columns whatever the buffer held before. -/
theorem colsWritten {sp : Space} (v : View sig .tc sp S2x2048x2 .i16) (f : v.ty.Contents (Elt F)) (p00 p01 p10 p11 : Vec F S1x2048x1 .i16) :
    v.read (Elt F) (v.writes (Elt F) f [
      ⟨Rect.unit (s := S2x2048x2) ![1, 0, 1] S1x2048x1.size inb_S2x2048x2_S1x2048x1_1_0_1, p11⟩,
      ⟨Rect.unit (s := S2x2048x2) ![1, 0, 0] S1x2048x1.size inb_S2x2048x2_S1x2048x1_1_0_0, p10⟩,
      ⟨Rect.unit (s := S2x2048x2) ![0, 0, 1] S1x2048x1.size inb_S2x2048x2_S1x2048x1_0_0_1, p01⟩,
      ⟨Rect.unit (s := S2x2048x2) ![0, 0, 0] S1x2048x1.size inb_S2x2048x2_S1x2048x1_0_0_0, p00⟩]) = colsOf p00 p01 p10 p11 := by
  funext y
  have h0 : (y 0).val < 2 := (y 0).isLt
  have h2 : (y 2).val < 2 := (y 2).isLt
  by_cases hR : (y 0).val = 0
  · rw [View.read_writes_cons_unit_of_not_mem (heq := rfl) (a := 0) (ha := Or.inl (show (y 0).val < 1 by omega)),
      View.read_writes_cons_unit_of_not_mem (heq := rfl) (a := 0) (ha := Or.inl (show (y 0).val < 1 by omega))]
    by_cases hC : (y 2).val = 0
    · rw [View.read_writes_cons_unit_of_not_mem (heq := rfl) (a := 2) (ha := Or.inl (show (y 2).val < 1 by omega)),
        View.read_writes_cons_unit_of_mem (heq := rfl) (x := ix3 0 (y 1) 0) (hx := by
          intro a; fin_cases a
          · exact hR
          · exact (Nat.zero_add _).symm
          · exact hC)]
      unfold colsOf; rw [if_pos hR, if_pos hC]; rfl
    · rw [View.read_writes_cons_unit_of_mem (heq := rfl) (x := ix3 0 (y 1) 0) (hx := by
          intro a; fin_cases a
          · exact hR
          · exact (Nat.zero_add _).symm
          · exact (show (y 2).val = 1 + 0 by omega))]
      unfold colsOf; rw [if_pos hR, if_neg hC]; rfl
  · by_cases hC : (y 2).val = 0
    · rw [View.read_writes_cons_unit_of_not_mem (heq := rfl) (a := 2) (ha := Or.inl (show (y 2).val < 1 by omega)),
        View.read_writes_cons_unit_of_mem (heq := rfl) (x := ix3 0 (y 1) 0) (hx := by
          intro a; fin_cases a
          · exact (show (y 0).val = 1 + 0 by omega)
          · exact (Nat.zero_add _).symm
          · exact hC)]
      unfold colsOf; rw [if_neg hR, if_pos hC]; rfl
    · rw [View.read_writes_cons_unit_of_mem (heq := rfl) (x := ix3 0 (y 1) 0) (hx := by
          intro a; fin_cases a
          · exact (show (y 0).val = 1 + 0 by omega)
          · exact (Nat.zero_add _).symm
          · exact (show (y 2).val = 1 + 0 by omega))]
      unfold colsOf; rw [if_neg hR, if_neg hC]; rfl

/-- One store over the whole buffer leaves its payload. -/
theorem cmpWritten {sp : Space} (v : View sig .tc sp S1x1x2048x2048 .i8) (f : v.ty.Contents (Elt F)) (p : Vec F S1x1x2048x2048 .i8) :
    v.read (Elt F) (v.writes (Elt F) f [⟨Rect.unit (s := S1x1x2048x2048) ![0, 0, 0, 0] S1x1x2048x2048.size inb_S1x1x2048x2048_S1x1x2048x2048_0_0_0_0, p⟩]) = p := by
  funext y
  rw [View.read_writes_cons_unit_of_mem (heq := rfl) (x := y) (hx := by
    intro a; fin_cases a <;> exact (Nat.zero_add _).symm)]

end Cert.KernelIdeal.Run

end
-- ==== Proof.KernelIdealBody.lean ====
/-
  The two kernel bodies of the program, each run once: what a body leaves in its output staging buffers, as a function of the
  blocks it finds in its input staging buffers.
-/
module

public import proofs.«01_k».proof.Proof.KernelIdealRows
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The bucket kernel -/

/-- The row numbers 0 … 63, one per row of the 64 candidates. -/
abbrev rowNo : IVec S64x2048 32 := iota .tc S64x2048 32 [0] iota_S64x2048_d0_w32

/-- The block's left and right heads' hidden vectors. -/
abbrev hidL (x : Vec F S2048x128 .f32) : Vec F S2048x64 .f32 := View.ld x (Rect.unit (s := S2048x128) ![0, 0] S2048x64.size inb_S2048x128_S2048x64_0_0)
/-- The second head's 64 columns of a block of hidden states. -/
abbrev hidR (x : Vec F S2048x128 .f32) : Vec F S2048x64 .f32 := View.ld x (Rect.unit (s := S2048x128) ![0, 64] S2048x64.size inb_S2048x128_S2048x64_0_64)
/-- The block's two heads' rotations. -/
abbrev rotL (r : Vec F S2x64x64 .f32) : Vec F S1x64x64 .f32 := View.ld r (Rect.unit (s := S2x64x64) ![0, 0, 0] S1x64x64.size inb_S2x64x64_S1x64x64_0_0_0)
/-- The second head's rotations of a block. -/
abbrev rotR (r : Vec F S2x64x64 .f32) : Vec F S1x64x64 .f32 := View.ld r (Rect.unit (s := S2x64x64) ![1, 0, 0] S1x64x64.size inb_S2x64x64_S1x64x64_1_0_0)

/-- The column-form bucket numbers the body leaves in its first output buffer, from its two input blocks. -/
def outCol (x : Vec F S2048x128 .f32) (r : Vec F S2x64x64 .f32) : Vec F S2x2048x2 .i16 :=
  colsOf (F := F) (k0_pay6 (F := F) (hidL x) (rotL r)) (k0_pay10 (F := F) rowNo k0_pay2 (k0_pay7 (hidL x) (rotL r)))
    (k0_pay14 (F := F) rowNo k0_pay2 (k0_pay12 rowNo (hidR x) (rotR r))) (k0_pay1 (k0_pay17 (F := F) rowNo k0_pay2 (k0_pay11 (hidR x) (rotR r))))

/-- The row-form bucket numbers the body leaves in its second output buffer, from its two input blocks. -/
def outRow (x : Vec F S2048x128 .f32) (r : Vec F S2x64x64 .f32) : Vec F S2x2x2048 .i16 :=
  rowsOf (F := F) (k0_pay5 (F := F) (hidL x) (rotL r)) (k0_pay9 (F := F) rowNo (k0_pay7 (hidL x) (rotL r)))
    (k0_pay13 (k0_pay12 (F := F) rowNo (hidR x) (rotR r))) (k0_pay16 (F := F) rowNo (k0_pay11 (hidR x) (rotR r)))

set_option maxHeartbeats 1000000 in
/-- The bucket body on whole staging buffers, the inputs' at `x0`, `x1` and the outputs' at anything, runs to its end with the inputs'
    as they were, the first output's at `outCol x0 x1` and the second's at `outRow x0 x1`. -/
theorem sound_bucket (c : Dev nD) (E : Set ℕ) (i : grid0.Coords) (arg1 : Memref sig .tc .vmem S2048x128 .f32) (harg1 : arg1.IsWhole) (arg2 : Memref sig .tc .vmem S2x64x64 .f32) (harg2 : arg2.IsWhole) (arg3 : Memref sig .tc .vmem S2x2048x2 .i16) (harg3 : arg3.IsWhole) (arg4 : Memref sig .tc .vmem S2x2x2048 .i16) (harg4 : arg4.IsWhole)
    (x0 : Vec F S2048x128 .f32) (x1 : Vec F S2x64x64 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (outCol x0 x1) ∗ owns (c : Thread nD τ) arg4 fullShare (outRow x0 x1)) -∗ K ⟨⟩))
      ⊢ wp frame (wpE (defs₀ (F := F)) Variants.none c none) E (cc0__bucket_kernel i arg1 harg1 arg2 harg2 arg3 harg3 arg4 harg4) K := by
  simp only [cc0__bucket_kernel_eq_skeleton]; unfold cc0__bucket_kernel_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (colsWritten _ _ _ _ _ _).trans ?_
    rfl
  iexists _; isplitr
  swap; · iexact H3
  ipureintro
  refine (rowsWritten _ _ _ _ _ _ _ _).trans ?_
  rfl

/-! ## The compare kernel -/

/-- What the compare body leaves in its output buffer, from its two input blocks: one store over the whole buffer. -/
def outCmp (x0 : Vec F S1x2048x2 .i16) (x1 : Vec F S1x2x2048 .i16) : Vec F S1x1x2048x2048 .i8 :=
  k1_pay1 (F := F) (View.ld x0 (Rect.unit (s := S1x2048x2) ![0, 0, 0] S1x2048x1.size inb_S1x2048x2_S1x2048x1_0_0_0))
    (View.ld x0 (Rect.unit (s := S1x2048x2) ![0, 0, 1] S1x2048x1.size inb_S1x2048x2_S1x2048x1_0_0_1))
    (View.ld x1 (Rect.unit (s := S1x2x2048) ![0, 0, 0] S1x1x2048.size inb_S1x2x2048_S1x1x2048_0_0_0))
    (View.ld x1 (Rect.unit (s := S1x2x2048) ![0, 1, 0] S1x1x2048.size inb_S1x2x2048_S1x1x2048_0_1_0))

set_option maxHeartbeats 1000000 in
/-- The compare body on whole staging buffers, the inputs' at `x0`, `x1` and the output's at anything, runs to its end with the inputs'
    as they were and the output's at `outCmp x0 x1`. -/
theorem sound_cmp (c : Dev nD) (E : Set ℕ) (i : grid1.Coords) (arg1 : Memref sig .tc .vmem S1x2048x2 .i16) (harg1 : arg1.IsWhole) (arg2 : Memref sig .tc .vmem S1x2x2048 .i16) (harg2 : arg2.IsWhole) (arg3 : Memref sig .tc .vmem S1x1x2048x2048 .i8) (harg3 : arg3.IsWhole)
    (x0 : Vec F S1x2048x2 .i16) (x1 : Vec F S1x2x2048 .i16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outCmp x0 x1)) -∗ K ⟨⟩))
      ⊢ wp frame (wpE (defs₀ (F := F)) Variants.none c none) E (cc1__cmp_kernel i arg1 harg1 arg2 harg2 arg3 harg3) K := by
  simp only [cc1__cmp_kernel_eq_skeleton]; unfold cc1__cmp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact cmpWritten _ _ _

end Cert.KernelIdeal.Run

end
-- ==== Proof.KernelIdealRun.lean ====
/-
  The run of the program: each kernel call's contents before and after, the two calls and the host operations as segments, and the whole
  run from any memory: it ends, the arguments are unchanged, every counter is zero and every buffer is at its computed contents.
-/
module

public import proofs.«01_k».proof.Proof.KernelIdealBody
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## The bucket call -/

section Bucket

variable (W : Dev nD → Valuation τ sig (Elt F))

/-- Window `w`'s block at point `t`, read off its array as the call finds it. -/
def blkA (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The bucket call from contents `W`: inputs' buffers keep their blocks, the outputs' are left at the two bucket forms. -/
def datA (c : Dev nD) : Dat τ (Elt F) Unit ℕ (UR sig nD τ) ℕ cfg0 c where
  A w := W c (Proc.devRef .tc (Pipeline.arrRef spec0 w))
  after w t := match w with
    | ⟨0, _⟩ => blkA W c 0 t
    | ⟨1, _⟩ => blkA W c 1 t
    | ⟨2, _⟩ => outCol (blkA W c 0 t) (blkA W c 1 t)
    | ⟨3, _⟩ => outRow (blkA W c 0 t) (blkA W c 1 t)
  Φ _ := Pipeline.scopedRest spec0 c
  q _ := fullShare
  owed _ := 0

/-- The arrays at entry are the given contents. -/
theorem datA_A (c : Dev nD) (w : Fin cfg0.W) : (datA W c).A w = W c (Proc.devRef .tc (Pipeline.arrRef spec0 w)) := by
  dsimp only [datA]

/-- A step of the bucket call leaves the block of hidden states as read. -/
theorem datA_after0 (c : Dev nD) (t : Fin cfg0.N) : (datA W c).after 0 t = blkA W c 0 t := by dsimp only [datA]
/-- A step of the bucket call leaves the block of rotations as read. -/
theorem datA_after1 (c : Dev nD) (t : Fin cfg0.N) : (datA W c).after 1 t = blkA W c 1 t := by dsimp only [datA]
/-- A step of the bucket call leaves the column form of its two heads' buckets. -/
theorem datA_after2 (c : Dev nD) (t : Fin cfg0.N) : (datA W c).after 2 t = outCol (blkA W c 0 t) (blkA W c 1 t) := by dsimp only [datA]
/-- A step of the bucket call leaves the row form of its two heads' buckets. -/
theorem datA_after3 (c : Dev nD) (t : Fin cfg0.N) : (datA W c).after 3 t = outRow (blkA W c 0 t) (blkA W c 1 t) := by dsimp only [datA]

/-- The hidden vectors' buffer holds its block when the body runs. -/
theorem datA_before0 (c : Dev nD) (t : Fin cfg0.N) (d) : (datA W c).before 0 t d = blkA W c 0 t :=
  ((datA W c).before_in_eq_fetched 0 rfl (fun _ => rfl) (fun _ _ _ => rfl) (fun t => by rw [datA_after0]; unfold Dat.blockOf blkA; rw [datA_A]) t d).trans
    (by unfold Dat.fetched Dat.blockOf blkA; rw [datA_A]; rfl)
/-- The rotations' buffer holds its block when the body runs. -/
theorem datA_before1 (c : Dev nD) (t : Fin cfg0.N) (d) : (datA W c).before 1 t d = blkA W c 1 t :=
  ((datA W c).before_in_eq_fetched 1 rfl (fun _ => rfl) (fun _ _ _ => rfl) (fun t => by rw [datA_after1]; unfold Dat.blockOf blkA; rw [datA_A]) t d).trans
    (by unfold Dat.fetched Dat.blockOf blkA; rw [datA_A]; rfl)

/-- What the bucket body is called with at a point, the windows one by one, -/
def preA (c : Dev nD) (t : Fin cfg0.N) : sProp 𝕄 :=
  iprop((datA W c).Φ t.castSucc ∗ (datA W c).owesAt () t.castSucc
    ∗ (∃ d, owns (c : Thread nD τ) (st0_0 t) fullShare ((datA W c).before 0 t d))
    ∗ (∃ d, owns (c : Thread nD τ) (st0_1 t) fullShare ((datA W c).before 1 t d))
    ∗ (∃ d, owns (c : Thread nD τ) (st0_2 t) fullShare ((datA W c).before 2 t d))
    ∗ (∃ d, owns (c : Thread nD τ) (st0_3 t) fullShare ((datA W c).before 3 t d)))

/-- and what it returns. -/
def postA (c : Dev nD) (t : Fin cfg0.N) : sProp 𝕄 :=
  iprop((datA W c).Φ t.succ ∗ (datA W c).owesAt () t.succ
    ∗ owns (c : Thread nD τ) (st0_0 t) fullShare ((datA W c).after 0 t)
    ∗ owns (c : Thread nD τ) (st0_1 t) fullShare ((datA W c).after 1 t)
    ∗ owns (c : Thread nD τ) (st0_2 t) fullShare ((datA W c).after 2 t)
    ∗ owns (c : Thread nD τ) (st0_3 t) fullShare ((datA W c).after 3 t))

/-- The bucket body at any point: from its entry state to its exit state. -/
theorem runA (c : Dev nD) (t : Fin cfg0.N) :
    preA W c t ⊢ wp frame (wpE (defs₀ (F := F)) Variants.none c none) Set.univ (bodyAt0 t) (fun _ => postA W c t) := by
  unfold preA postA bodyAt0
  simp only [datA_before0, datA_before1]
  rw [show (datA W c).Φ t.succ = (datA W c).Φ t.castSucc from rfl,
    show (datA W c).owesAt () t.succ = (datA W c).owesAt () t.castSucc from rfl,
    datA_after0, datA_after1, datA_after2, datA_after3]
  iintro ⟨HΦ, Ho, ⟨%d0, H0⟩, ⟨%d1, H1⟩, ⟨%d2, H2⟩, ⟨%d3, H3⟩⟩
  iapply (sound_bucket c Set.univ (grid0.coords t) _ _ _ _ _ _ _ _ (blkA W c 0 t) (blkA W c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The bucket body meets the pipeline's obligation at every point. -/
theorem obligationA (c : Dev nD) : BodyObligation (datA W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (runA W c t) rfl .rfl fun _ => .rfl

end Bucket

/-! ## The compare call -/

section Compare

variable (W : Dev nD → Valuation τ sig (Elt F))

/-- Window `w`'s block at point `t`, read off its array as the call finds it. -/
def blkB (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The compare call from contents `W`: inputs' buffers keep their blocks, the output's is left at the comparison. -/
def datB (c : Dev nD) : Dat τ (Elt F) Unit ℕ (UR sig nD τ) ℕ cfg1 c where
  A w := W c (Proc.devRef .tc (Pipeline.arrRef spec1 w))
  after w t := match w with
    | ⟨0, _⟩ => blkB W c 0 t
    | ⟨1, _⟩ => blkB W c 1 t
    | ⟨2, _⟩ => outCmp (blkB W c 0 t) (blkB W c 1 t)
  Φ _ := Pipeline.scopedRest spec1 c
  q _ := fullShare
  owed _ := 0

/-- The arrays at entry are the given contents. -/
theorem datB_A (c : Dev nD) (w : Fin cfg1.W) : (datB W c).A w = W c (Proc.devRef .tc (Pipeline.arrRef spec1 w)) := by
  dsimp only [datB]

/-- A step of the compare call leaves the column block as read. -/
theorem datB_after0 (c : Dev nD) (t : Fin cfg1.N) : (datB W c).after 0 t = blkB W c 0 t := by dsimp only [datB]
/-- A step of the compare call leaves the row block as read. -/
theorem datB_after1 (c : Dev nD) (t : Fin cfg1.N) : (datB W c).after 1 t = blkB W c 1 t := by dsimp only [datB]
/-- A step of the compare call leaves its head's comparison. -/
theorem datB_after2 (c : Dev nD) (t : Fin cfg1.N) : (datB W c).after 2 t = outCmp (blkB W c 0 t) (blkB W c 1 t) := by dsimp only [datB]

/-- The column form's buffer holds its block when the body runs. -/
theorem datB_before0 (c : Dev nD) (t : Fin cfg1.N) (d) : (datB W c).before 0 t d = blkB W c 0 t :=
  ((datB W c).before_in_eq_fetched 0 rfl (fun _ => rfl) (fun _ _ _ => rfl) (fun t => by rw [datB_after0]; unfold Dat.blockOf blkB; rw [datB_A]) t d).trans
    (by unfold Dat.fetched Dat.blockOf blkB; rw [datB_A]; rfl)
/-- The row form's buffer holds its block when the body runs. -/
theorem datB_before1 (c : Dev nD) (t : Fin cfg1.N) (d) : (datB W c).before 1 t d = blkB W c 1 t :=
  ((datB W c).before_in_eq_fetched 1 rfl (fun _ => rfl) (fun _ _ _ => rfl) (fun t => by rw [datB_after1]; unfold Dat.blockOf blkB; rw [datB_A]) t d).trans
    (by unfold Dat.fetched Dat.blockOf blkB; rw [datB_A]; rfl)

/-- What the compare body is called with at a point, the windows one by one, -/
def preB (c : Dev nD) (t : Fin cfg1.N) : sProp 𝕄 :=
  iprop((datB W c).Φ t.castSucc ∗ (datB W c).owesAt () t.castSucc
    ∗ (∃ d, owns (c : Thread nD τ) (st1_0 t) fullShare ((datB W c).before 0 t d))
    ∗ (∃ d, owns (c : Thread nD τ) (st1_1 t) fullShare ((datB W c).before 1 t d))
    ∗ (∃ d, owns (c : Thread nD τ) (st1_2 t) fullShare ((datB W c).before 2 t d)))

/-- and what it returns. -/
def postB (c : Dev nD) (t : Fin cfg1.N) : sProp 𝕄 :=
  iprop((datB W c).Φ t.succ ∗ (datB W c).owesAt () t.succ
    ∗ owns (c : Thread nD τ) (st1_0 t) fullShare ((datB W c).after 0 t)
    ∗ owns (c : Thread nD τ) (st1_1 t) fullShare ((datB W c).after 1 t)
    ∗ owns (c : Thread nD τ) (st1_2 t) fullShare ((datB W c).after 2 t))

/-- The compare body at any point: from its entry state to its exit state. -/
theorem runB (c : Dev nD) (t : Fin cfg1.N) :
    preB W c t ⊢ wp frame (wpE (defs₀ (F := F)) Variants.none c none) Set.univ (bodyAt1 t) (fun _ => postB W c t) := by
  unfold preB postB bodyAt1
  simp only [datB_before0, datB_before1]
  rw [show (datB W c).Φ t.succ = (datB W c).Φ t.castSucc from rfl,
    show (datB W c).owesAt () t.succ = (datB W c).owesAt () t.castSucc from rfl,
    datB_after0, datB_after1, datB_after2]
  iintro ⟨HΦ, Ho, ⟨%d0, H0⟩, ⟨%d1, H1⟩, ⟨%d2, H2⟩⟩
  iapply (sound_cmp c Set.univ (grid1.coords t) _ _ _ _ _ _ (blkB W c 0 t) (blkB W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The compare body meets the pipeline's obligation at every point. -/
theorem obligationB (c : Dev nD) : BodyObligation (datB W c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (runB W c t) rfl .rfl fun _ => .rfl

end Compare

/-! ## The contents between the items -/

variable (m : (ℓ : Loc nD τ sig) → Buf (Elt F) ℓ) (ρ : Dev nD → PrngReg)

/-- Core `c`'s buffers after the bucket call, -/
def WA (c : Dev nD) : Valuation τ sig (Elt F) := Pipeline.afterRegion (datA (V1 m) c) (V1 m c)
/-- after the compare call, -/
def WB (c : Dev nD) : Valuation τ sig (Elt F) := Pipeline.afterRegion (datB (WA m) c) (WA m c)
/-- and at the end. -/
def WEnd (c : Dev nD) : Valuation τ sig (Elt F) := StableHlo.after hostOps2 (WB m c)

/-- The two calls' proof data, each from the contents it is entered with. -/
def pdats : (p : Fin 2) → (c : Dev nD) → Dat τ (Elt F) Unit ℕ (UR sig nD τ) ℕ (cfgs p) c
  | ⟨0, _⟩ => fun c => datA (V1 m) c
  | ⟨1, _⟩ => fun c => datB (WA m) c

/-- The TensorCores' cells carry the one level, nothing being owed. -/
def lev (g : GSem nD τ sig) : Finset Unit := if g.1.2 = .tc then Finset.univ else ∅
/-- No semaphore needs an order: every level is zero. -/
abbrev lv : GSem nD τ sig → Unit → ℕ := fun _ _ => 0

/-- Nothing is owed, so every staging wait is in order. -/
theorem cut (p : Fin 2) : Pipeline.LevelCut (pcfgs (F := F)) adm () lev lv p (fun _ : Dev nD => (0 : CellTallies nD τ sig Unit)) (fun _ => 0) where
  hι c w s := by unfold lev; rw [if_pos rfl]; exact Finset.mem_univ _
  hιb c w s := le_refl _
  hD c g i h := absurd h (lt_irrefl 0)

/-- What rides beside the buffers between items: the core owes nothing. -/
abbrev rest (c : Dev nD) : sProp 𝕄 := iprop((∃ Wd, owes (c : Thread nD τ) (0 : CellTallies nD τ sig Unit) Wd) ∗ BI.emp ∗ BI.emp)

set_option backward.isDefEq.respectTransparency.types false in
/-- The bucket call as a segment. -/
def segA : RegionSeg (pcfgs (F := F)) adm (pdats m) () defs₀ Variants.none lev lv 0 :=
  RegionSeg.ofHeldIn (pcfgs (F := F)) adm (pdats m) () defs₀ Variants.none lev lv 0 (fun _ => 0) (Pipeline.ucRefs τ sig) (fun _ => BI.emp) (fun _ => BI.emp)
    launch0.toP rfl (fun c => (obligationA (V1 m) c).loose) (fun _ _ => rfl) (fun _ => rfl) (fun c => (datA (V1 m) c).share_full fun _ => rfl)
    (fun c => by
      rw [show (pdats m 0 c).Φ 0 = Pipeline.scopedRest spec0 c from rfl]
      iintro ⟨H, -⟩; iexact H)
    (fun c => by
      rw [show (pdats m 0 c).Φ (Fin.last _) = Pipeline.scopedRest spec0 c from rfl]
      iintro H; isplitl [H]; · iexact H
      iempintro)
    (fun _ => 0) (cut 0) (fun _ => BI.emp) (V1 m) (fun c w => datA_A (V1 m) c w)

set_option backward.isDefEq.respectTransparency.types false in
/-- The compare call as a segment. -/
def segB : RegionSeg (pcfgs (F := F)) adm (pdats m) () defs₀ Variants.none lev lv 1 :=
  RegionSeg.ofHeldIn (pcfgs (F := F)) adm (pdats m) () defs₀ Variants.none lev lv 1 (fun _ => 0) (Pipeline.ucRefs τ sig) (fun _ => BI.emp) (fun _ => BI.emp)
    launch1.toP rfl (fun c => (obligationB (WA m) c).loose) (fun _ _ => rfl) (fun _ => rfl) (fun c => (datB (WA m) c).share_full fun _ => rfl)
    (fun c => by
      rw [show (pdats m 1 c).Φ 0 = Pipeline.scopedRest spec1 c from rfl]
      iintro ⟨H, -⟩; iexact H)
    (fun c => by
      rw [show (pdats m 1 c).Φ (Fin.last _) = Pipeline.scopedRest spec1 c from rfl]
      iintro H; isplitl [H]; · iexact H
      iempintro)
    (fun _ => 0) (cut 1) (fun _ => BI.emp) (WA m) (fun c w => datB_A (WA m) c w)

/-- No call's array is a staging buffer. -/
theorem arrsA : Pipeline.arrRefs (τ := τ) (pcfgs (F := F) 0).spec ⊆ Pipeline.ucRefs τ sig := Pipeline.arrRefs_sub_ucRefs _ (fun w => by fin_cases w <;> rfl)
/-- The arrays of the compare call are among the unscoped references. -/
theorem arrsB : Pipeline.arrRefs (τ := τ) (pcfgs (F := F) 1).spec ⊆ Pipeline.ucRefs τ sig := Pipeline.arrRefs_sub_ucRefs _ (fun w => by fin_cases w <;> rfl)

set_option backward.isDefEq.respectTransparency.types false in
/-- The bucket call is entered from the buffers at `V1`, nothing owed, -/
theorem segA_pre (c : Dev nD) : iprop(StableHlo.held (c : Thread nD τ) (Pipeline.ucRefs τ sig) (V1 m c) ∗ rest (F := F) c) ⊢ (segA m).pre c := by
  exact RegionSeg.ofHeldIn_pre (X := fun _ => BI.emp) (R := fun _ => BI.emp) (W := V1 m) (pcs := pcfgs (F := F)) (a := adm) (pdats := pdats m) (ι := ()) (defs₀ := defs₀) (𝒱₀ := Variants.none) (L := lev) (lv := lv) (p := 0)
    (D := fun _ => 0) (arrsA (F := F)) c
set_option backward.isDefEq.respectTransparency.types false in
/-- and left with them at `WA`, nothing owed. -/
theorem segA_post (c : Dev nD) : (segA m).post c ⊢ iprop(StableHlo.held (c : Thread nD τ) (Pipeline.ucRefs τ sig) (WA m c) ∗ rest (F := F) c) := by
  rw [show WA m c = Pipeline.afterRegion (pdats m 0 c) (V1 m c) from rfl]
  exact RegionSeg.ofHeldIn_post (Y := fun _ => BI.emp) (R := fun _ => BI.emp) (W := V1 m) (pcs := pcfgs (F := F)) (a := adm) (pdats := pdats m) (ι := ()) (defs₀ := defs₀) (𝒱₀ := Variants.none) (L := lev) (lv := lv) (p := 0)
    (D := fun _ => 0) (arrsA (F := F)) c

set_option backward.isDefEq.respectTransparency.types false in
/-- The compare call is entered from the buffers at `WA`, nothing owed, -/
theorem segB_pre (c : Dev nD) : iprop(StableHlo.held (c : Thread nD τ) (Pipeline.ucRefs τ sig) (WA m c) ∗ rest (F := F) c) ⊢ (segB m).pre c := by
  exact RegionSeg.ofHeldIn_pre (X := fun _ => BI.emp) (R := fun _ => BI.emp) (W := WA m) (pcs := pcfgs (F := F)) (a := adm) (pdats := pdats m) (ι := ()) (defs₀ := defs₀) (𝒱₀ := Variants.none) (L := lev) (lv := lv) (p := 1)
    (D := fun _ => 0) (arrsB (F := F)) c
set_option backward.isDefEq.respectTransparency.types false in
/-- and left with them at `WB`, nothing owed. -/
theorem segB_post (c : Dev nD) : (segB m).post c ⊢ iprop(StableHlo.held (c : Thread nD τ) (Pipeline.ucRefs τ sig) (WB m c) ∗ rest (F := F) c) := by
  rw [show WB m c = Pipeline.afterRegion (pdats m 1 c) (WA m c) from rfl]
  exact RegionSeg.ofHeldIn_post (Y := fun _ => BI.emp) (R := fun _ => BI.emp) (W := WA m) (pcs := pcfgs (F := F)) (a := adm) (pdats := pdats m) (ι := ()) (defs₀ := defs₀) (𝒱₀ := Variants.none) (L := lev) (lv := lv) (p := 1)
    (D := fun _ => 0) (arrsB (F := F)) c

/-- The host operations before the calls, as a segment. -/
def segHead : HostSeg (Ix := Unit) (Name := ℕ) (U := UR sig nD τ) (Lvl := ℕ) (pcfgs (F := F)) defs₀ Variants.none lev lv :=
  seg0 m Variants.none lev lv (fun _ => rest)
/-- The host operations after the calls, as a segment. -/
def segTail : HostSeg (Ix := Unit) (Name := ℕ) (U := UR sig nD τ) (Lvl := ℕ) (pcfgs (F := F)) defs₀ Variants.none lev lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (WB m) rest

/-- @main's four segments. -/
abbrev items : List (Seg (pcfgs (F := F)) adm (pdats m) () defs₀ Variants.none lev lv) :=
  [.host (segHead m), .region (segA m), .region (segB m), .host (segTail m)]

set_option backward.isDefEq.respectTransparency.types false in
/-- The run: from any memory with zero counters every weakly fair execution of @main ends, every buffer that is no staging buffer at its
    computed contents and every counter at zero. -/
theorem run_main : θ_run defs (onTc (τ := τ) (main (F := F))) ⟨m, fun _ => 0, ρ⟩ (fun r =>
    (∀ c : Dev nD, ∀ b ∈ Pipeline.ucRefs τ sig, r.2.mem (((c : Thread nD τ)).1, b) = WEnd m c b) ∧ r.2.sem = fun _ => 0) := by
  refine Pipeline.θ_run_regions_kit_sems (pcfgs (F := F)) adm (pdats m) () cellOf_inj emb₁ defs₀ Variants.none lev lv m ρ main
    (items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (by simp only [items, Seg.pipes_host, Seg.pipes_region, Seg.pipes_nil]; decide) 0
    (fun g h => by unfold lev; rw [if_neg h]) (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (WEnd m c))
    (hch := ⟨fun _ => .rfl, fun c => ?_, fun c => ?_, fun c => ?_, fun c => ?_⟩)
    (hinit := Pipeline.initEach lev lv fun c => ?_)
    (QY := fun c s => ∀ b ∈ Pipeline.ucRefs τ sig, s.mem (((c : Thread nD τ)).1, b) = WEnd m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact segA_pre m c
  · exact (segA_post m c).trans (segB_pre m c)
  · exact segB_post m c
  · show iprop(StableHlo.held (c : Thread nD τ) (Pipeline.ucRefs τ sig) (WEnd m c) ∗ rest c) ⊢ _
    iintro ⟨H, ⟨HO, -, -⟩⟩
    isplitl [H] <;> iassumption
  · rw [Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (WEnd m c) s') $$ [Hh HSI]
    · isplitl [Hh] <;> iassumption
    icases Hr with ⟨%h, HSI⟩
    imodintro
    isplitr
    · ipureintro; exact h
    · iexact HSI

/-! ## The arguments and the result -/

/-- A buffer no call writes keeps its contents through the bucket call, -/
theorem WA_of (c : Dev nD) (r : Ref sig .tc) (h : ∀ w, Pipeline.arrRef cfg0.spec w = r → (cfg0.win w).isOut = false) :
    WA m c (Proc.devRef .tc r) = V1 m c (Proc.devRef .tc r) :=
  Pipeline.afterRegion_keeps (datA (V1 m) c) (V1 m c) winFacts0.arr_inj (datA_A (V1 m) c) r h
/-- and through the compare call. -/
theorem WB_of (c : Dev nD) (r : Ref sig .tc) (h : ∀ w, Pipeline.arrRef cfg1.spec w = r → (cfg1.win w).isOut = false) :
    WB m c (Proc.devRef .tc r) = WA m c (Proc.devRef .tc r) :=
  Pipeline.afterRegion_keeps (datB (WA m) c) (WA m c) winFacts1.arr_inj (datB_A (WA m) c) r h

/-- A buffer nothing writes ends as launched. -/
theorem WEnd_of (c : Dev nD) (r : Ref sig .tc) (h2 : r ∉ hostOps2_W) (h0 : r ∉ hostOps0_W)
    (hb : ∀ w, Pipeline.arrRef cfg1.spec w = r → (cfg1.win w).isOut = false) (ha : ∀ w, Pipeline.arrRef cfg0.spec w = r → (cfg0.win w).isOut = false) :
    WEnd m c (Proc.devRef .tc r) = m ((c : Thread nD τ).loc r) :=
  (StableHlo.after_of_writes_sub hostOps2 _ hostOps2_writes h2).trans <| (WB_of m c r hb).trans <| (WA_of m c r ha).trans <| (V1_of m c r h0).trans rfl

/-- The run at the arguments and the result: both arguments end as launched, the result at its computed contents, every counter at zero. -/
theorem run_result : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v6) = WEnd m c (Proc.devRef .tc main_v6)) ∧ r.2.sem = fun _ => 0) := by
  have hm : ∀ r : Ref sig .tc, r.isScoped = false → (Proc.devRef .tc r : DevRef τ sig) ∈ Pipeline.ucRefs τ sig := fun r hr =>
    Finset.mem_filter.mpr ⟨StableHlo.devRef_mem_tcRefs r, fun h' => Bool.false_ne_true (hr.symm.trans h')⟩
  refine (θ_run defs _ _).mono (fun _ h => ⟨fun c => ⟨?_, ?_, ?_⟩, h.2⟩) (run_main m ρ)
  · exact (h.1 c (Proc.devRef .tc main_arg0) (hm _ rfl)).trans (WEnd_of m c main_arg0 (by decide) (by decide) (by decide) (by decide))
  · exact (h.1 c (Proc.devRef .tc main_arg1) (hm _ rfl)).trans (WEnd_of m c main_arg1 (by decide) (by decide) (by decide) (by decide))
  · exact h.1 c (Proc.devRef .tc main_v6) (hm _ rfl)

/-- The frame: both arguments end as launched and every counter at zero. -/
theorem frame_run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (run_result m ρ)

end Cert.KernelIdeal.Run

end
-- ==== Proof.First.lean ====
/-
  The first index at which a family of 64 extended reals is largest, and the folds that find it.
-/
module

public import Idealize.ShloMosaic.Lib.Claim
public import Idealize.ShloMosaic.PureOps.Ideal.Laws
public import Idealize.ShloMosaic.Lib.Pipeline.ValueKit
public import Idealize.ShloMosaic.Lib.SortNet.Extract

@[expose] public section

set_option maxRecDepth 16384

noncomputable section

namespace Cert.Bucket

open Idealize.ShloMosaic

/-- `n` is the first index at which `f` is largest. -/
def IsFirst {N : ℕ} (f : Fin N → EReal) (n : Fin N) : Prop := (∀ i, f i ≤ f n) ∧ ∀ i, i < n → f i < f n

/-- There is only one such index. -/
theorem IsFirst.unique {N : ℕ} {f : Fin N → EReal} {a b : Fin N} (ha : IsFirst f a) (hb : IsFirst f b) : a = b := by
  rcases lt_trichotomy a b with h | h | h
  · exact absurd (hb.2 a h) (not_lt.mpr (ha.1 b))
  · exact h
  · exact absurd (ha.2 b h) (not_lt.mpr (hb.1 a))

/-- There is such an index. -/
theorem exists_isFirst {N : ℕ} (f : Fin (N + 1) → EReal) : ∃ n, IsFirst f n := by
  classical
  obtain ⟨m, hm⟩ := Finite.exists_max f
  have hne : (Finset.univ.filter fun i => ∀ j, f j ≤ f i).Nonempty := ⟨m, by simpa using hm⟩
  refine ⟨(Finset.univ.filter fun i => ∀ j, f j ≤ f i).min' hne, ?_, ?_⟩
  · exact (Finset.mem_filter.mp (Finset.min'_mem _ hne)).2
  · intro i hi
    by_contra hlt
    have hge := not_lt.mp hlt
    have h2 := (Finset.mem_filter.mp (Finset.min'_mem _ hne)).2
    exact absurd (Finset.min'_le _ i (Finset.mem_filter.mpr ⟨Finset.mem_univ _, fun j => (h2 j).trans hge⟩)) (not_le.mpr hi)

/-- The first index at which `f` is largest. -/
def first {N : ℕ} (f : Fin (N + 1) → EReal) : Fin (N + 1) := Classical.choose (exists_isFirst f)

/-- `first f` is the first place where `f` has its largest value. -/
theorem first_spec {N : ℕ} (f : Fin (N + 1) → EReal) : IsFirst f (first f) := Classical.choose_spec (exists_isFirst f)

/-- The maximum of a family, folded from the bottom, is its value at the first largest index. -/
theorem fold_max_eq {N : ℕ} (f : Fin (N + 1) → EReal) : (Finset.univ : Finset (Fin (N + 1))).fold max ⊥ f = f (first f) := by
  apply le_antisymm
  · exact (Finset.fold_max_le _).mpr ⟨bot_le, fun i _ => (first_spec f).1 i⟩
  · exact (Finset.le_fold_max _).mpr (Or.inr ⟨first f, Finset.mem_univ _, le_refl _⟩)

/-- Reading a small number's word as a signed number gives the number. -/
theorem toInt_small (n : ℕ) (h : n ≤ 64) : (BitVec.ofNat 32 n).toInt = n := by
  interval_cases n <;> rfl

/-- The signed minimum of a family of words that are small numbers, folded from the largest word, is the smallest of them. -/
theorem fold_minsi_eq {N : ℕ} (hN : N ≤ 63) (w : Fin (N + 1) → BitVec 32) (n : Fin (N + 1)) (hn : w n = BitVec.ofNat 32 n)
    (hw : ∀ i, ∃ k : ℕ, n.val ≤ k ∧ k ≤ 64 ∧ w i = BitVec.ofNat 32 k) :
    (Finset.univ : Finset (Fin (N + 1))).fold IntOp.minsi 2147483647#32 w = BitVec.ofNat 32 n := by
  classical
  have hnl := n.isLt
  -- the fold over any set is a small number at least `n`, or the largest word
  have key : ∀ s : Finset (Fin (N + 1)), (n ∈ s → s.fold IntOp.minsi 2147483647#32 w = BitVec.ofNat 32 n)
      ∧ (n.val : ℤ) ≤ (s.fold IntOp.minsi 2147483647#32 w).toInt := by
    intro s
    induction s using Finset.induction_on with
    | empty => exact ⟨fun h => absurd h (Finset.notMem_empty _), by
        rw [Finset.fold_empty]; exact (show (n.val : ℤ) ≤ 2147483647 by omega)⟩
    | insert a s ha ih =>
      rw [Finset.fold_insert ha]
      obtain ⟨k, hk1, hk2, hk⟩ := hw a
      have hka : (w a).toInt = k := by rw [hk]; exact toInt_small k hk2
      have hnn : (BitVec.ofNat 32 n.val).toInt = n.val := toInt_small _ (by omega)
      constructor
      · intro hmem
        apply BitVec.eq_of_toInt_eq
        rw [Idealize.ShloMosaic.SortNet.toInt_minsi, hnn, hka]
        rcases Finset.mem_insert.mp hmem with h | h
        · subst h
          have := hka.symm.trans (hn ▸ hnn)
          have := ih.2
          omega
        · have := ih.1 h
          rw [this, hnn]
          omega
      · rw [Idealize.ShloMosaic.SortNet.toInt_minsi, hka]
        have := ih.2
        omega
  exact (key Finset.univ).1 (Finset.mem_univ _)

/-- The order in which pairs of a value and a word compete: a larger value wins, between equal values the smaller word. -/
def Beaten (p q : EReal × BitVec 32) : Prop := p.1 < q.1 ∨ p.1 = q.1 ∧ q.2.toInt ≤ p.2.toInt

/-- Every pair is beaten by itself. -/
theorem Beaten.refl (p : EReal × BitVec 32) : Beaten p p := Or.inr ⟨rfl, le_refl _⟩

/-- Being beaten is transitive. -/
theorem Beaten.trans {p q r : EReal × BitVec 32} (h : Beaten p q) (h' : Beaten q r) : Beaten p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi'.trans hi⟩

/-- A choice between two pairs that keeps one of them, which beats both. -/
def Chooses (op : EReal × BitVec 32 → EReal × BitVec 32 → EReal × BitVec 32) : Prop :=
  ∀ p q, (op p q = p ∨ op p q = q) ∧ Beaten p (op p q) ∧ Beaten q (op p q)

/-- Folding such a choice over a list keeps the initial pair or one of the list's, and what it keeps beats them all. -/
theorem foldl_chooses {op : EReal × BitVec 32 → EReal × BitVec 32 → EReal × BitVec 32} (hop : Chooses op) (L : List (EReal × BitVec 32)) (p : EReal × BitVec 32) :
    (L.foldl op p = p ∨ L.foldl op p ∈ L) ∧ Beaten p (L.foldl op p) ∧ ∀ q ∈ L, Beaten q (L.foldl op p) := by
  induction L generalizing p with
  | nil => exact ⟨Or.inl rfl, Beaten.refl p, fun q hq => absurd hq List.not_mem_nil⟩
  | cons a L ih =>
    rw [List.foldl_cons]
    obtain ⟨h1, h2, h3⟩ := ih (op p a)
    obtain ⟨g1, g2, g3⟩ := hop p a
    refine ⟨?_, g2.trans h2, fun q hq => ?_⟩
    · rcases h1 with h | h
      · rcases g1 with g | g
        · left; rw [h, g]
        · right; rw [h, g]; exact List.mem_cons_self
      · right; exact List.mem_cons_of_mem _ h
    · rcases List.mem_cons.mp hq with e | hq
      · rw [e]; exact g3.trans h2
      · exact h3 q hq

/-- Folding such a choice, from the bottom and the word zero, over the values of a family each beside its number gives the number of the
    first largest. -/
theorem foldl_first {op : EReal × BitVec 32 → EReal × BitVec 32 → EReal × BitVec 32} (hop : Chooses op) {N : ℕ} (hN : N ≤ 63) (f : Fin (N + 1) → EReal)
    (L : List (EReal × BitVec 32)) (hL : ∀ p, p ∈ L ↔ ∃ k, p = (f k, BitVec.ofNat 32 k.val)) :
    (L.foldl op (⊥, 0#32)).2 = BitVec.ofNat 32 (first f).val := by
  obtain ⟨h1, h2, h3⟩ := foldl_chooses hop L (⊥, 0#32)
  generalize L.foldl op (⊥, 0#32) = r at h1 h2 h3
  have hb : ∀ k, Beaten (f k, BitVec.ofNat 32 k.val) r := fun k => h3 _ ((hL _).mpr ⟨k, rfl⟩)
  have hi : ∀ k : Fin (N + 1), (BitVec.ofNat 32 k.val).toInt = k.val := fun k => toInt_small _ (by have := k.isLt; omega)
  rcases h1 with h | h
  · have hbot : ∀ k, f k = ⊥ := by
      intro k
      have := hb k
      rw [h] at this
      rcases this with h' | h'
      · exact absurd h' not_lt_bot
      · exact h'.1
    have h0 : IsFirst f 0 := ⟨fun i => by rw [hbot, hbot], fun i hi => absurd hi (Fin.not_lt_zero i)⟩
    rw [h, (first_spec f).unique h0]; rfl
  · obtain ⟨k, hk⟩ := (hL _).mp h
    have hF : IsFirst f k := by
      have hb' : ∀ i, f i < f k ∨ f i = f k ∧ (k.val : ℤ) ≤ i.val := by
        intro i
        have := hb i
        unfold Beaten at this
        rw [hk] at this
        simpa only [hi] using this
      refine ⟨fun i => ?_, fun i hlt => ?_⟩
      · rcases hb' i with h' | h'
        · exact le_of_lt h'
        · exact le_of_eq h'.1
      · rcases hb' i with h' | h'
        · exact h'
        · have : i.val < k.val := hlt
          have := h'.2
          omega
    rw [hk, (first_spec f).unique hF]

/-- What the host's two-operand reduction over one axis folds over, at an index, is the operands' pairs along that axis. -/
theorem mem_fiber {s t : Shape} {a : Fin s.rank} (h' : s.ReducesTo [a] t) (h : s.Reduces [a] t) (x : s.Idx → EReal) (y : s.Idx → BitVec 32) (j : t.Idx)
    (p : EReal × BitVec 32) : p ∈ Host.argReduceFiber x y h' j ↔ ∃ k, p = (x (h.lift j k), y (h.lift j k)) := by
  classical
  unfold Host.argReduceFiber
  rw [List.mem_map]
  have hd := Shape.ReducesTo.drop_eq_drop h' h
  have himg := h.filter_drop_eq_image_lift j
  constructor
  · rintro ⟨n, hn, e⟩
    have hn' : h.drop (s.rowMajor.symm n) = j := by
      rw [← hd]; simpa using (List.mem_filter.mp hn).2
    have : s.rowMajor.symm n ∈ Finset.univ.filter fun i => h.drop i = j := Finset.mem_filter.mpr ⟨Finset.mem_univ _, hn'⟩
    rw [himg] at this
    obtain ⟨k, -, hk⟩ := Finset.mem_image.mp this
    exact ⟨k, by rw [← e, ← hk]⟩
  · rintro ⟨k, e⟩
    have : h.lift j k ∈ Finset.univ.filter fun i => h.drop i = j := by
      rw [himg]; exact Finset.mem_image.mpr ⟨k, Finset.mem_univ _, rfl⟩
    have hk := (Finset.mem_filter.mp this).2
    refine ⟨s.rowMajor (h.lift j k), List.mem_filter.mpr ⟨List.mem_finRange _, ?_⟩, ?_⟩
    · rw [Equiv.symm_apply_apply, hd]; simpa using hk
    · rw [Equiv.symm_apply_apply, e]

/-- The host's arg-max over one axis, started from the bottom and the word zero, over values beside their numbers along the axis, gives the
    number of the first largest. -/
theorem argReduce_first {s t u : Shape} {a : Fin s.rank} {op : EReal × BitVec 32 → EReal × BitVec 32 → EReal × BitVec 32} (hop : Chooses op)
    (x : FVec Ideal s .f32) (y : s.Idx → BitVec 32) (bot : u.Idx → Ideal .f32) (zero : u.Idx → BitVec 32) (hbot : ∀ i, bot i = (⊥ : EReal)) (hzero : ∀ i, zero i = 0#32)
    (h' : s.ReducesTo [a] t) (h : s.Reduces [a] t) (hu : 0 < u.numel) (j : t.Idx) {N : ℕ} (hN : N ≤ 63) (e : N + 1 = s.size a)
    (f : Fin (N + 1) → EReal) (hx : ∀ k, x (h.lift j (Fin.cast e k)) = f k) (hy : ∀ k, y (h.lift j (Fin.cast e k)) = BitVec.ofNat 32 k.val) :
    (Host.argReduce (F := Ideal) (φ := .f32) op x y bot zero h' hu j).2 = BitVec.ofNat 32 (first f).val := by
  rw [Ideal.argReduce_eq_reduce2, Host.reduce2_eq_foldl_fiber, hbot, hzero]
  refine foldl_first hop hN f _ fun p => ?_
  rw [mem_fiber h' h]
  constructor
  · rintro ⟨k, hk⟩
    exact ⟨Fin.cast e.symm k, hk.trans (by rw [← hx, ← hy]; rfl)⟩
  · rintro ⟨k, hk⟩
    exact ⟨Fin.cast e k, hk.trans (by rw [hx, hy])⟩

/-! ## The buckets -/

/-- The score of position `t` against column `r` of head `h`'s rotation `k`: the contraction of the rotation with the head's hidden vector. -/
def score (R : Fin 12 → Fin 64 → Fin 2 → Fin 32 → EReal) (X : Fin 2048 → Fin 768 → EReal) (h : Fin 12) (k : Fin 2) (t : Fin 2048) (r : Fin 32) : EReal :=
  ∑ d : Fin 64, R h d k r * X t ⟨h.val * 64 + d.val, by omega⟩

/-- The 64 candidates: the 32 scores, then their negations. -/
def candAt (R : Fin 12 → Fin 64 → Fin 2 → Fin 32 → EReal) (X : Fin 2048 → Fin 768 → EReal) (h : Fin 12) (k : Fin 2) (t : Fin 2048) (i : Fin (63 + 1)) : EReal :=
  if hi : i.val < 32 then score R X h k t ⟨i.val, hi⟩ else - score R X h k t ⟨i.val - 32, by omega⟩

/-- The bucket of a position: the number of its first largest candidate. -/
def bucketAt (R : Fin 12 → Fin 64 → Fin 2 → Fin 32 → EReal) (X : Fin 2048 → Fin 768 → EReal) (h : Fin 12) (k : Fin 2) (t : Fin 2048) : Fin (63 + 1) :=
  first (candAt R X h k t)

/-- Whether two positions share a bucket of head `h` in either hash. -/
def share (R : Fin 12 → Fin 64 → Fin 2 → Fin 32 → EReal) (X : Fin 2048 → Fin 768 → EReal) (h : Fin 12) (t u : Fin 2048) : BitVec 1 :=
  BitVec.ofBool (decide (bucketAt R X h 0 t = bucketAt R X h 0 u) || decide (bucketAt R X h 1 t = bucketAt R X h 1 u))

end Cert.Bucket

end
-- ==== Proof.KernelBuckets.lean ====
/-
  The bucket kernel's payloads on the extended reals.
-/
module

public import proofs.«01_k».proof.Proof.KernelIdealBody
public import proofs.«01_k».proof.Proof.First
public import Idealize.ShloMosaic.Lib.Pipeline.ValueKit

@[expose] public section

set_option maxRecDepth 16384

noncomputable section

namespace Cert.KernelIdeal.Run

open Cert.KernelIdeal Cert.KernelIdeal.Gen Cert.Bucket
open Idealize.ShloMosaic Idealize.ShloMosaic.TcCoe

/-! ## One head and one hash -/

/-- The 64 candidates of one hash: 32 rows of the rotated vectors over their negations; the first hash's rows, -/
def halfLo (v : FVec Ideal S64x2048 .f32) : FVec Ideal S64x2048 .f32 :=
  concatenate S64x2048 0 [⟨S32x2048, extractStridedSlice S32x2048 ![0, 0] v slices_S64x2048_o0_0_S32x2048⟩,
    ⟨S32x2048, subf (broadcast S32x2048 (Scalar.ofBits .f32 0x00000000#32 : Ideal .f32)) (extractStridedSlice S32x2048 ![0, 0] v slices_S64x2048_o0_0_S32x2048)⟩] concatenates_S32x2048_S32x2048_S64x2048_d0
/-- and the second's. -/
def halfHi (v : FVec Ideal S64x2048 .f32) : FVec Ideal S64x2048 .f32 :=
  concatenate S64x2048 0 [⟨S32x2048, extractStridedSlice S32x2048 ![32, 0] v slices_S64x2048_o32_0_S32x2048⟩,
    ⟨S32x2048, subf (broadcast S32x2048 (Scalar.ofBits .f32 0x00000000#32 : Ideal .f32)) (extractStridedSlice S32x2048 ![32, 0] v slices_S64x2048_o32_0_S32x2048)⟩] concatenates_S32x2048_S32x2048_S64x2048_d0

/-- The word of negative infinity reads as the bottom. -/
theorem bot_val : Ideal.ofBits .f32 0xFF800000#32 = ⊥ := by simp [Ideal.ofBits, Ideal.ieee]

/-- The smallest row at which a column reaches its maximum is the first largest. -/
theorem min_row (f : Fin 64 → EReal) :
    (Finset.univ : Finset (Fin 64)).fold IntOp.minsi 2147483647#32 (fun i => if f i = (Finset.univ : Finset (Fin 64)).fold max (Ideal.ofBits .f32 0xFF800000#32) f then BitVec.ofNat 32 i.val else 64#32)
      = BitVec.ofNat 32 (first (N := 63) f).val := by
  rw [bot_val, show (Finset.univ : Finset (Fin 64)).fold max ⊥ f = f (first (N := 63) f) from fold_max_eq (N := 63) f]
  have hs := first_spec (N := 63) f
  refine fold_minsi_eq (N := 63) (by omega) _ _ (if_pos rfl) fun i => ?_
  by_cases h : f i = f (first (N := 63) f)
  · exact ⟨i.val, not_lt.mp fun hlt => absurd h (ne_of_lt (hs.2 i hlt)), by omega, if_pos h⟩
  · exact ⟨64, by have := (first (N := 63) f).isLt; omega, le_refl _, if_neg h⟩

/-- The row-form bucket: the number of the column's first largest candidate. -/
theorem brow_eq (v : FVec Ideal S64x2048 .f32) (y : S1x2048.Idx) :
    k0_pay8 rowNo v y = BitVec.ofNat 32 (first (N := 63) fun i => v (ix2 i (y 1))).val := by
  pointwise [k0_pay8]
  exact min_row _

/-- Picking a number out of 0 … 63 by its indicator and summing gives the number. -/
theorem pick_sum (n : Fin 64) :
    (∑ x : Fin 64, (FloatOps.sitofp (F := Ideal) .f32 (BitVec.setWidth 32 (IntOp.cmpi .eq (BitVec.ofNat 32 x.val) (BitVec.ofNat 32 n.val))) : EReal)
      * (FloatOps.sitofp (F := Ideal) .bf16 (BitVec.ofNat 32 x.val) : EReal)) = ((n.val : ℝ) : EReal) := by
  have hterm : ∀ x : Fin 64, (FloatOps.sitofp (F := Ideal) .f32 (BitVec.setWidth 32 (IntOp.cmpi .eq (BitVec.ofNat 32 x.val) (BitVec.ofNat 32 n.val))) : EReal)
      * (FloatOps.sitofp (F := Ideal) .bf16 (BitVec.ofNat 32 x.val) : EReal) = if x = n then ((n.val : ℝ) : EReal) else 0 := by
    intro x
    have hv : (FloatOps.sitofp (F := Ideal) .bf16 (BitVec.ofNat 32 x.val) : EReal) = ((x.val : ℝ) : EReal) := by
      show (((BitVec.ofNat 32 x.val).toInt : ℝ) : EReal) = _
      rw [toInt_small _ (by omega)]; simp
    rw [hv]
    show (((BitVec.setWidth 32 (IntOp.cmpi .eq (BitVec.ofNat 32 x.val) (BitVec.ofNat 32 n.val))).toInt : ℝ) : EReal) * _ = _
    by_cases h : x = n
    · subst h
      simp [IntOp.cmpi]
    · have hne : (BitVec.ofNat 32 x.val == BitVec.ofNat 32 n.val) = false := by
        rw [beq_eq_false_iff_ne]
        intro e
        have e' := congrArg BitVec.toNat e
        rw [BitVec.toNat_ofNat, BitVec.toNat_ofNat, Nat.mod_eq_of_lt (by omega), Nat.mod_eq_of_lt (by omega)] at e'
        exact h (Fin.ext e')
      simp only [IntOp.cmpi, hne, if_neg h]
      simp
  rw [Finset.sum_congr rfl fun x _ => hterm x, Finset.sum_ite_eq' Finset.univ n, if_pos (Finset.mem_univ _)]

/-- Rounding a small number to sixteen bits gives its word. -/
theorem round_small (n : Fin 64) : Ideal.fptosi 16 ((n.val : ℝ) : EReal) = BitVec.ofNat 16 n.val := by
  have h : ((n.val : ℝ) : EReal) = (((n.val : ℕ) : ℝ) : EReal) := rfl
  unfold Ideal.fptosi
  rw [Ideal.toIntClamped_coe, if_pos (by positivity), Int.floor_natCast]
  have := n.isLt
  rw [min_eq_right (by norm_num; omega), max_eq_right (by norm_num)]
  exact BitVec.ofInt_natCast _ _

/-- The column form of a row of bucket numbers: the same numbers as sixteen-bit words. -/
theorem bcol_eq (w : IVec S1x2048 32) (n : Fin 64) (y : S1x2048x1.Idx) (h : w (ix2 0 (y 1)) = BitVec.ofNat 32 n.val) :
    k0_pay14 (F := Ideal) rowNo k0_pay2 w y = BitVec.ofNat 16 n.val := by
  pointwise [k0_pay14, k0_pay2]
  rw [h, pick_sum n]
  exact round_small n

/-- The row form of a row of bucket numbers: the same numbers as sixteen-bit words. -/
theorem brow16_eq (w : IVec S1x2048 32) (n : Fin 64) (y : S1x1x2048.Idx) (h : w (ix2 0 (y 2)) = BitVec.ofNat 32 n.val) :
    k0_pay13 w y = BitVec.ofNat 16 n.val := by
  pointwise [k0_pay13]
  rw [h]
  have := n.isLt
  apply BitVec.eq_of_toNat_eq
  simp

/-- The first head's bucket numbers of the first hash, from the blocks. -/
theorem pay4_def (a : Vec Ideal S2048x64 .f32) (b : Vec Ideal S1x64x64 .f32) : k0_pay4 (F := Ideal) a b = k0_pay8 rowNo (halfLo (k0_pay3 a b)) := rfl
/-- The first head's signed rows of the second hash, from the blocks. -/
theorem pay7_def (a : Vec Ideal S2048x64 .f32) (b : Vec Ideal S1x64x64 .f32) : k0_pay7 (F := Ideal) a b = halfHi (k0_pay3 a b) := rfl
/-- The second head's bucket numbers of the first hash, from the blocks. -/
theorem pay12_def (a : Vec Ideal S2048x64 .f32) (b : Vec Ideal S1x64x64 .f32) : k0_pay12 (F := Ideal) rowNo a b = k0_pay8 rowNo (halfLo (k0_pay3 a b)) := rfl
/-- The second hash's bucket numbers, from the product. -/
theorem pay15_def (v : FVec Ideal S64x2048 .f32) : k0_pay15 (F := Ideal) rowNo v = k0_pay8 rowNo (halfHi v) := rfl
/-- The second head's product is the same product. -/
theorem pay11_def (a : Vec Ideal S2048x64 .f32) (b : Vec Ideal S1x64x64 .f32) : k0_pay11 (F := Ideal) a b = k0_pay3 a b := rfl
/-- The column form of the first head's first hash. -/
theorem pay6_def (a : Vec Ideal S2048x64 .f32) (b : Vec Ideal S1x64x64 .f32) : k0_pay6 (F := Ideal) a b = k0_pay14 (F := Ideal) rowNo k0_pay2 (k0_pay4 a b) := rfl
/-- The column form of the first head's second hash. -/
theorem pay10_def (v : FVec Ideal S64x2048 .f32) : k0_pay10 (F := Ideal) rowNo k0_pay2 v = k0_pay14 (F := Ideal) rowNo k0_pay2 (k0_pay8 rowNo v) := rfl
/-- The column form of the second head's second hash. -/
theorem pay17_def (v : FVec Ideal S64x2048 .f32) : k0_pay1 (k0_pay17 (F := Ideal) rowNo k0_pay2 v) = k0_pay14 (F := Ideal) rowNo k0_pay2 (k0_pay15 (F := Ideal) rowNo v) := rfl
/-- The row form of the first head's first hash. -/
theorem pay5_def (a : Vec Ideal S2048x64 .f32) (b : Vec Ideal S1x64x64 .f32) : k0_pay5 (F := Ideal) a b = k0_pay13 (k0_pay4 (F := Ideal) a b) := rfl
/-- The row form of the first head's second hash. -/
theorem pay9_def (v : FVec Ideal S64x2048 .f32) : k0_pay9 (F := Ideal) rowNo v = k0_pay13 (k0_pay8 rowNo v) := rfl
/-- The row form of the second head's second hash. -/
theorem pay16_def (v : FVec Ideal S64x2048 .f32) : k0_pay16 (F := Ideal) rowNo v = k0_pay13 (k0_pay15 (F := Ideal) rowNo v) := rfl

/-! ## A block's two heads and two hashes -/

/-- The candidates of head `a` of a block, hash `k`, position `t`, from the block's hidden vectors `x` and rotations `r`. -/
def blkCand (x : Vec Ideal S2048x128 .f32) (r : Vec Ideal S2x64x64 .f32) (a k : Fin 2) (t : Fin 2048) (i : Fin (63 + 1)) : EReal :=
  if hi : i.val < 32 then ∑ d : Fin 64, r (ix3 a d ⟨k.val * 32 + i.val, by omega⟩) * x (ix2 t ⟨a.val * 64 + d.val, by omega⟩)
  else - ∑ d : Fin 64, r (ix3 a d ⟨k.val * 32 + (i.val - 32), by omega⟩) * x (ix2 t ⟨a.val * 64 + d.val, by omega⟩)

/-- The left head's hidden vectors and rotations in the block, -/
theorem hidL_at (x : Vec Ideal S2048x128 .f32) (t : Fin 2048) (d : Fin 64) : hidL x (ix2 t d) = x (ix2 t ⟨0 * 64 + d.val, by omega⟩) := by
  refine congrArg x ?_
  funext a; apply Fin.ext; fin_cases a
  · exact (Nat.zero_add _).trans (Nat.one_mul _)
  · exact (show 0 + 1 * d.val = 0 * 64 + d.val by omega)
/-- The first head's rotations at an index. -/
theorem rotL_at (r : Vec Ideal S2x64x64 .f32) (i j : Fin 64) : rotL r (ix3 0 i j) = r (ix3 0 i j) := by
  refine congrArg r ?_
  funext a; apply Fin.ext; fin_cases a
  · rfl
  · exact (Nat.zero_add _).trans (Nat.one_mul _)
  · exact (Nat.zero_add _).trans (Nat.one_mul _)
/-- and the right head's. -/
theorem hidR_at (x : Vec Ideal S2048x128 .f32) (t : Fin 2048) (d : Fin 64) : hidR x (ix2 t d) = x (ix2 t ⟨1 * 64 + d.val, by omega⟩) := by
  refine congrArg x ?_
  funext a; apply Fin.ext; fin_cases a
  · exact (Nat.zero_add _).trans (Nat.one_mul _)
  · exact (show 64 + 1 * d.val = 1 * 64 + d.val by omega)
/-- The second head's rotations at an index. -/
theorem rotR_at (r : Vec Ideal S2x64x64 .f32) (i j : Fin 64) : rotR r (ix3 0 i j) = r (ix3 1 i j) := by
  refine congrArg r ?_
  funext a; apply Fin.ext; fin_cases a
  · rfl
  · exact (Nat.zero_add _).trans (Nat.one_mul _)
  · exact (Nat.zero_add _).trans (Nat.one_mul _)

/-- The signed rows of the first head and first hash are its candidates. -/
theorem candLLo (x : Vec Ideal S2048x128 .f32) (r : Vec Ideal S2x64x64 .f32) (t : Fin 2048) (i : Fin (63 + 1)) :
    halfLo (k0_pay3 (hidL x) (rotL r)) (ix2 i t) = blkCand x r 0 0 t i := by
  have hr := rotL_at r
  have hx := hidL_at x
  unfold blkCand
  generalize hidL x = xx at hx ⊢
  generalize rotL r = rr at hr ⊢
  pointwise [halfLo, k0_pay3]
  simp only [hx, hr, zero_sub]
  pointwise
/-- The signed rows of the first head and second hash are its candidates. -/
theorem candLHi (x : Vec Ideal S2048x128 .f32) (r : Vec Ideal S2x64x64 .f32) (t : Fin 2048) (i : Fin (63 + 1)) :
    halfHi (k0_pay3 (hidL x) (rotL r)) (ix2 i t) = blkCand x r 0 1 t i := by
  have hr := rotL_at r
  have hx := hidL_at x
  unfold blkCand
  generalize hidL x = xx at hx ⊢
  generalize rotL r = rr at hr ⊢
  pointwise [halfHi, k0_pay3]
  simp only [hx, hr, zero_sub]
  pointwise
/-- The signed rows of the second head and first hash are its candidates. -/
theorem candRLo (x : Vec Ideal S2048x128 .f32) (r : Vec Ideal S2x64x64 .f32) (t : Fin 2048) (i : Fin (63 + 1)) :
    halfLo (k0_pay3 (hidR x) (rotR r)) (ix2 i t) = blkCand x r 1 0 t i := by
  have hr := rotR_at r
  have hx := hidR_at x
  unfold blkCand
  generalize hidR x = xx at hx ⊢
  generalize rotR r = rr at hr ⊢
  pointwise [halfLo, k0_pay3]
  simp only [hx, hr, zero_sub]
/-- The signed rows of the second head and second hash are its candidates. -/
theorem candRHi (x : Vec Ideal S2048x128 .f32) (r : Vec Ideal S2x64x64 .f32) (t : Fin 2048) (i : Fin (63 + 1)) :
    halfHi (k0_pay3 (hidR x) (rotR r)) (ix2 i t) = blkCand x r 1 1 t i := by
  have hr := rotR_at r
  have hx := hidR_at x
  unfold blkCand
  generalize hidR x = xx at hx ⊢
  generalize rotR r = rr at hr ⊢
  pointwise [halfHi, k0_pay3]
  simp only [hx, hr, zero_sub]

/-- The bucket numbers of the first head and first hash. -/
theorem rowLLo (x : Vec Ideal S2048x128 .f32) (r : Vec Ideal S2x64x64 .f32) (t : Fin 2048) :
    k0_pay8 rowNo (halfLo (k0_pay3 (hidL x) (rotL r))) (ix2 0 t) = BitVec.ofNat 32 (first (blkCand x r 0 0 t)).val := by
  rw [brow_eq]
  exact congrArg (fun f => BitVec.ofNat 32 (first (N := 63) f).val) (funext fun i => candLLo x r t i)

/-- The bucket numbers of the first head and second hash. -/
theorem rowLHi (x : Vec Ideal S2048x128 .f32) (r : Vec Ideal S2x64x64 .f32) (t : Fin 2048) :
    k0_pay8 rowNo (halfHi (k0_pay3 (hidL x) (rotL r))) (ix2 0 t) = BitVec.ofNat 32 (first (blkCand x r 0 1 t)).val := by
  rw [brow_eq]
  exact congrArg (fun f => BitVec.ofNat 32 (first (N := 63) f).val) (funext fun i => candLHi x r t i)

/-- The bucket numbers of the second head and first hash. -/
theorem rowRLo (x : Vec Ideal S2048x128 .f32) (r : Vec Ideal S2x64x64 .f32) (t : Fin 2048) :
    k0_pay8 rowNo (halfLo (k0_pay3 (hidR x) (rotR r))) (ix2 0 t) = BitVec.ofNat 32 (first (blkCand x r 1 0 t)).val := by
  rw [brow_eq]
  exact congrArg (fun f => BitVec.ofNat 32 (first (N := 63) f).val) (funext fun i => candRLo x r t i)

/-- The bucket numbers of the second head and second hash. -/
theorem rowRHi (x : Vec Ideal S2048x128 .f32) (r : Vec Ideal S2x64x64 .f32) (t : Fin 2048) :
    k0_pay8 rowNo (halfHi (k0_pay3 (hidR x) (rotR r))) (ix2 0 t) = BitVec.ofNat 32 (first (blkCand x r 1 1 t)).val := by
  rw [brow_eq]
  exact congrArg (fun f => BitVec.ofNat 32 (first (N := 63) f).val) (funext fun i => candRHi x r t i)

/-- The column form the bucket body leaves: each position's first largest candidate's number, per head and hash. -/
theorem outCol_eq (x : Vec Ideal S2048x128 .f32) (r : Vec Ideal S2x64x64 .f32) (a : Fin 2) (t : Fin 2048) (k : Fin 2) :
    outCol x r (ix3 a t k) = BitVec.ofNat 16 (first (blkCand x r a k t)).val := by
  unfold outCol
  rw [pay6_def, pay10_def, pay17_def, pay4_def, pay7_def, pay12_def, pay15_def, pay11_def]
  fin_cases a <;> fin_cases k
  · exact bcol_eq _ (first (N := 63) _) _ (rowLLo x r t)
  · exact bcol_eq _ (first (N := 63) _) _ (rowLHi x r t)
  · exact bcol_eq _ (first (N := 63) _) _ (rowRLo x r t)
  · exact bcol_eq _ (first (N := 63) _) _ (rowRHi x r t)

/-- The row form it leaves: the same numbers. -/
theorem outRow_eq (x : Vec Ideal S2048x128 .f32) (r : Vec Ideal S2x64x64 .f32) (a k : Fin 2) (t : Fin 2048) :
    outRow x r (ix3 a k t) = BitVec.ofNat 16 (first (blkCand x r a k t)).val := by
  unfold outRow
  rw [pay5_def, pay9_def, pay16_def, pay4_def, pay7_def, pay12_def, pay15_def, pay11_def]
  fin_cases a <;> fin_cases k
  · exact brow16_eq _ (first (N := 63) _) _ (rowLLo x r t)
  · exact brow16_eq _ (first (N := 63) _) _ (rowLHi x r t)
  · exact brow16_eq _ (first (N := 63) _) _ (rowRLo x r t)
  · exact brow16_eq _ (first (N := 63) _) _ (rowRHi x r t)

/-- The comparison the compare body leaves: one when either hash's words agree, else zero. -/
theorem outCmp_eq (x0 : Vec Ideal S1x2048x2 .i16) (x1 : Vec Ideal S1x2x2048 .i16) (y : S1x1x2048x2048.Idx) :
    outCmp x0 x1 y = BitVec.setWidth 8 (BitVec.ofBool ((x0 (ix3 0 (y 2) 0) == x1 (ix3 0 0 (y 3))) || (x0 (ix3 0 (y 2) 1) == x1 (ix3 0 1 (y 3))))) := by
  unfold outCmp
  pointwise [k1_pay1]
  unfold IntOp.cmpi
  simp only []
  cases (x0 (ix3 0 (y 2) 0) == x1 (ix3 0 0 (y 3))) <;> cases (x0 (ix3 0 (y 2) 1) == x1 (ix3 0 1 (y 3))) <;> rfl

end Cert.KernelIdeal.Run
end
-- ==== Proof.KernelValue.lean ====
/-
  The value the two calls and the host operations around them leave in the result buffer.
-/
module

public import proofs.«01_k».proof.Proof.KernelIdealRun
public import proofs.«01_k».proof.Proof.KernelBuckets

@[expose] public section

set_option maxRecDepth 16384

noncomputable section

namespace Cert.KernelIdeal.Run

open Cert.KernelIdeal Cert.KernelIdeal.Gen Cert.Bucket
open Idealize.ShloMosaic Idealize.ShloMosaic.TcCoe Idealize.SL.Sem
open Idealize.ShloMosaic.Pipeline (Dat)

variable (m : (ℓ : Loc nD τ sig) → Buf (Elt Ideal) ℓ)

/-- The rotations and the hidden vectors as families. -/
abbrev rotF (r : Vec Ideal S12x64x2x32 .f32) : Fin 12 → Fin 64 → Fin 2 → Fin 32 → EReal := fun h d k i => r (ix4 h d k i)
/-- The hidden states as a function of position and feature. -/
abbrev hidF (x : Vec Ideal S1x2048x768 .f32) : Fin 2048 → Fin 768 → EReal := fun t e => x (ix3 0 t e)

/-- A device's two arguments. -/
abbrev argX (c : Dev nD) : Vec Ideal S1x2048x768 .f32 := m ((c : Thread nD τ).loc main_arg0)
/-- The rotations of a device at launch. -/
abbrev argR (c : Dev nD) : Vec Ideal S12x64x2x32 .f32 := m ((c : Thread nD τ).loc main_arg1)

/-- The windows' blocks, at every point. -/
theorem idxA : ∀ t : Fin cfg0.N, win0_0.index t = ![0, t.val] ∧ win0_1.index t = ![t.val, 0, 0] ∧ win0_2.index t = ![t.val, 0, 0] ∧ win0_3.index t = ![t.val, 0, 0] :=
  (by decide +kernel : ∀ t : Fin grid0.N, _)
/-- Step `t` of the compare call works on head `t`. -/
theorem idxB : ∀ t : Fin cfg1.N, win1_0.index t = ![t.val, 0, 0] ∧ win1_1.index t = ![t.val, 0, 0] ∧ win1_2.index t = ![0, t.val, 0, 0] :=
  (by decide +kernel : ∀ t : Fin grid1.N, _)

/-- The bucket call reads the hidden states without their batch axis. -/
theorem V1_v0 (c : Dev nD) : V1 m c (Proc.devRef .tc main_v0) = shapeCast S2048x768 (argX m c) shapeCasts_S1x2048x768_S2048x768 := by
  show StableHlo.after hostOps0 (V0 m c) (Proc.devRef .tc main_v0) = _
  entry_read
  rfl
/-- The bucket call reads the rotations with hash and row merged. -/
theorem V1_v1 (c : Dev nD) : V1 m c (Proc.devRef .tc main_v1) = shapeCast S12x64x64 (argR m c) shapeCasts_S12x64x2x32_S12x64x64 := by
  show StableHlo.after hostOps0 (V0 m c) (Proc.devRef .tc main_v1) = _
  entry_read
  rfl

/-- The two reshapes at an index, -/
theorem castX (X : Vec Ideal S1x2048x768 .f32) (y : S2048x768.Idx) : shapeCast S2048x768 X shapeCasts_S1x2048x768_S2048x768 y = X (ix3 0 (y 0) (y 1)) := by
  pointwise
/-- The merged rotations at row `32 k + i` are those of hash `k` at row `i`. -/
theorem castR (R : Vec Ideal S12x64x2x32 .f32) (h : Fin 12) (d : Fin 64) (k : Fin 2) (i : Fin 32) :
    shapeCast S12x64x64 R shapeCasts_S12x64x2x32_S12x64x64 (ix3 h d ⟨k.val * 32 + i.val, by omega⟩) = R (ix4 h d k i) := by
  pointwise

/-- The hidden vectors' block at a point, -/
theorem blkA0 (c : Dev nD) (t : Fin cfg0.N) (p : Fin 2048) (e : Fin 128) :
    blkA (V1 m) c 0 t (ix2 p e) = argX m c (ix3 0 p ⟨t.val * 128 + e.val, by have : t.val < 6 := t.isLt; omega⟩) := by
  unfold blkA
  rw [show V1 m c (Proc.devRef .tc (Pipeline.arrRef spec0 0)) = _ from V1_v0 m c]
  blk_simp [idxA t]
  rw [castX]
  blk_ext [idxA t]

/-- and the rotations'. -/
theorem blkA1 (c : Dev nD) (t : Fin cfg0.N) (a : Fin 2) (d : Fin 64) (k : Fin 2) (i : Fin 32) :
    blkA (V1 m) c 1 t (ix3 a d ⟨k.val * 32 + i.val, by omega⟩) = argR m c (ix4 ⟨t.val * 2 + a.val, by have : t.val < 6 := t.isLt; omega⟩ d k i) := by
  unfold blkA
  rw [show V1 m c (Proc.devRef .tc (Pipeline.arrRef spec0 1)) = _ from V1_v1 m c]
  refine Eq.trans ?_ (castR (argR m c) _ d k i)
  blk_simp [idxA t]
  blk_ext [idxA t]

/-- So a block's candidates are its heads' candidates. -/
theorem blkCand_eq (c : Dev nD) (t : Fin cfg0.N) (a k : Fin 2) (p : Fin 2048) :
    blkCand (blkA (V1 m) c 0 t) (blkA (V1 m) c 1 t) a k p
      = candAt (rotF (argR m c)) (hidF (argX m c)) ⟨t.val * 2 + a.val, by have : t.val < 6 := t.isLt; omega⟩ k p := by
  funext i
  unfold blkCand candAt score
  have hx : ∀ d : Fin 64, blkA (V1 m) c 0 t (ix2 p ⟨a.val * 64 + d.val, by omega⟩) = argX m c (ix3 0 p ⟨(t.val * 2 + a.val) * 64 + d.val, by have : t.val < 6 := t.isLt; omega⟩) := fun d =>
    (blkA0 m c t p ⟨a.val * 64 + d.val, by omega⟩).trans (congrArg (argX m c) (by congr 1; exact Fin.ext (show t.val * 128 + (a.val * 64 + d.val) = (t.val * 2 + a.val) * 64 + d.val by omega)))
  split
  · exact Finset.sum_congr rfl fun d _ => congrArg₂ (· * ·) (blkA1 m c t a d k ⟨i.val, by omega⟩) (hx d)
  · exact congrArg Neg.neg (Finset.sum_congr rfl fun d _ => congrArg₂ (· * ·) (blkA1 m c t a d k ⟨i.val - 32, by omega⟩) (hx d))

/-- The buckets of a device as words, in column form and in row form. -/
def colArr (c : Dev nD) : Vec Ideal S12x2048x2 .i16 := fun y => BitVec.ofNat 16 (bucketAt (rotF (argR m c)) (hidF (argX m c)) (y 0) (y 2) (y 1)).val
/-- The buckets of a device as words, one row for every hash. -/
def rowArr (c : Dev nD) : Vec Ideal S12x2x2048 .i16 := fun y => BitVec.ofNat 16 (bucketAt (rotF (argR m c)) (hidF (argX m c)) (y 0) (y 1) (y 2)).val

/-- The column form at an index of a block, -/
theorem outCol_at (x : Vec Ideal S2048x128 .f32) (r : Vec Ideal S2x64x64 .f32) (y : S2x2048x2.Idx) :
    outCol x r y = BitVec.ofNat 16 (first (blkCand x r (y 0) (y 2) (y 1))).val := by
  refine Eq.trans (congrArg (outCol x r) ?_) (outCol_eq x r (y 0) (y 1) (y 2))
  funext a; fin_cases a <;> rfl
/-- and the row form. -/
theorem outRow_at (x : Vec Ideal S2048x128 .f32) (r : Vec Ideal S2x64x64 .f32) (y : S2x2x2048.Idx) :
    outRow x r y = BitVec.ofNat 16 (first (blkCand x r (y 0) (y 1) (y 2))).val := by
  refine Eq.trans (congrArg (outRow x r) ?_) (outRow_eq x r (y 0) (y 1) (y 2))
  funext a; fin_cases a <;> rfl

/-- A block's column form is its heads' part of the array's. -/
theorem colPoint (c : Dev nD) (t : Fin cfg0.N) (y : S2x2048x2.Idx) : outCol (blkA (V1 m) c 0 t) (blkA (V1 m) c 1 t) y
    = colArr m c (ix3 ⟨t.val * 2 + (y 0).val, by have : t.val < 6 := t.isLt; have : (y 0).val < 2 := (y 0).isLt; omega⟩ (y 1) (y 2)) := by
  exact (outCol_at _ _ y).trans (congrArg (fun f => BitVec.ofNat 16 (first f).val) (blkCand_eq m c t (y 0) (y 2) (y 1)))

/-- The bucket call leaves the column form in its first result, -/
theorem arrA2 (c : Dev nD) : (datA (V1 m) c).arrAt 2 cfg0.N = colArr m c := by
  refine (datA (V1 m) c).arrAt_eq_of_covers 2 _ (by decide +kernel) fun t _ y => ?_
  blk_simp
  rw [datA_after2]
  refine (colPoint m c t y).trans (congrArg (colArr m c) ?_)
  blk_ext [idxA t]

/-- A block's row form is its heads' part of the array's. -/
theorem rowPoint (c : Dev nD) (t : Fin cfg0.N) (y : S2x2x2048.Idx) : outRow (blkA (V1 m) c 0 t) (blkA (V1 m) c 1 t) y
    = rowArr m c (ix3 ⟨t.val * 2 + (y 0).val, by have : t.val < 6 := t.isLt; have : (y 0).val < 2 := (y 0).isLt; omega⟩ (y 1) (y 2)) := by
  exact (outRow_at _ _ y).trans (congrArg (fun f => BitVec.ofNat 16 (first f).val) (blkCand_eq m c t (y 0) (y 1) (y 2)))

/-- and the row form in its second. -/
theorem arrA3 (c : Dev nD) : (datA (V1 m) c).arrAt 3 cfg0.N = rowArr m c := by
  refine (datA (V1 m) c).arrAt_eq_of_covers 3 _ (by decide +kernel) fun t _ y => ?_
  blk_simp
  rw [datA_after3]
  refine (rowPoint m c t y).trans (congrArg (rowArr m c) ?_)
  blk_ext [idxA t]

/-- The compare call's two operands. -/
theorem WA_col (c : Dev nD) : WA m c (Proc.devRef .tc main_v2_0) = colArr m c :=
  (Pipeline.afterRegion_arr (datA (V1 m) c) (V1 m c) winFacts0.arr_inj 2).trans (arrA2 m c)
/-- The compare call's second operand is the row form. -/
theorem WA_row (c : Dev nD) : WA m c (Proc.devRef .tc main_v2_1) = rowArr m c :=
  (Pipeline.afterRegion_arr (datA (V1 m) c) (V1 m c) winFacts0.arr_inj 3).trans (arrA3 m c)

/-- The blocks the compare call reads. -/
theorem blkB0 (c : Dev nD) (t : Fin cfg1.N) (p : Fin 2048) (k : Fin 2) :
    blkB (WA m) c 0 t (ix3 0 p k) = BitVec.ofNat 16 (bucketAt (rotF (argR m c)) (hidF (argX m c)) ⟨t.val, t.isLt⟩ k p).val := by
  unfold blkB
  rw [show WA m c (Proc.devRef .tc (Pipeline.arrRef spec1 0)) = _ from WA_col m c]
  blk_simp
  refine (congrArg (colArr m c) (show _ = ix3 (⟨t.val, t.isLt⟩ : Fin 12) p k by blk_ext [idxB t])).trans ?_
  rfl
/-- The row block that the compare call reads. -/
theorem blkB1 (c : Dev nD) (t : Fin cfg1.N) (k : Fin 2) (p : Fin 2048) :
    blkB (WA m) c 1 t (ix3 0 k p) = BitVec.ofNat 16 (bucketAt (rotF (argR m c)) (hidF (argX m c)) ⟨t.val, t.isLt⟩ k p).val := by
  unfold blkB
  rw [show WA m c (Proc.devRef .tc (Pipeline.arrRef spec1 1)) = _ from WA_row m c]
  blk_simp
  refine (congrArg (rowArr m c) (show _ = ix3 (⟨t.val, t.isLt⟩ : Fin 12) k p by blk_ext [idxB t])).trans ?_
  rfl

/-- Two small numbers have the same word exactly when they are the same. -/
theorem word_beq {w : ℕ} (hw : 64 ≤ 2 ^ w) (a b : Fin (63 + 1)) : (BitVec.ofNat w a.val == BitVec.ofNat w b.val) = decide (a = b) := by
  by_cases h : a = b
  · subst h; simp
  · have : BitVec.ofNat w a.val ≠ BitVec.ofNat w b.val := by
      intro e
      have e' := congrArg BitVec.toNat e
      rw [BitVec.toNat_ofNat, BitVec.toNat_ofNat, Nat.mod_eq_of_lt (by have := a.isLt; omega), Nat.mod_eq_of_lt (by have := b.isLt; omega)] at e'
      exact h (Fin.ext e')
    simp [h, this]

/-- The comparison of a device as bytes. -/
def cmpArr (c : Dev nD) : Vec Ideal S1x12x2048x2048 .i8 := fun y => BitVec.setWidth 8 (share (rotF (argR m c)) (hidF (argX m c)) (y 1) (y 2) (y 3))

/-- A block's words of two positions agree in either hash exactly when the positions share a bucket there. -/
theorem cmpBit (c : Dev nD) (t : Fin cfg1.N) (p q : Fin 2048) :
    ((blkB (WA m) c 0 t (ix3 0 p 0) == blkB (WA m) c 1 t (ix3 0 0 q)) || (blkB (WA m) c 0 t (ix3 0 p 1) == blkB (WA m) c 1 t (ix3 0 1 q)))
      = (decide (bucketAt (rotF (argR m c)) (hidF (argX m c)) ⟨t.val, t.isLt⟩ 0 p = bucketAt (rotF (argR m c)) (hidF (argX m c)) ⟨t.val, t.isLt⟩ 0 q)
        || decide (bucketAt (rotF (argR m c)) (hidF (argX m c)) ⟨t.val, t.isLt⟩ 1 p = bucketAt (rotF (argR m c)) (hidF (argX m c)) ⟨t.val, t.isLt⟩ 1 q)) := by
  rw [blkB0, blkB0, blkB1, blkB1, ← word_beq (w := 16) (by norm_num), ← word_beq (w := 16) (by norm_num)]

/-- A block's comparison is its head's part of the array's. -/
theorem cmpPoint (c : Dev nD) (t : Fin cfg1.N) (y : S1x1x2048x2048.Idx) : outCmp (blkB (WA m) c 0 t) (blkB (WA m) c 1 t) y
    = cmpArr m c (ix4 0 ⟨t.val, t.isLt⟩ (y 2) (y 3)) :=
  (outCmp_eq _ _ y).trans (congrArg (fun b => BitVec.setWidth 8 (BitVec.ofBool b)) (cmpBit m c t (y 2) (y 3)))

/-- The compare call leaves it in its result. -/
theorem arrB2 (c : Dev nD) : (datB (WA m) c).arrAt 2 cfg1.N = cmpArr m c := by
  refine (datB (WA m) c).arrAt_eq_of_covers 2 _ (by decide +kernel) fun t _ y => ?_
  blk_simp
  rw [datB_after2]
  refine (cmpPoint m c t y).trans (congrArg (cmpArr m c) ?_)
  blk_ext [idxB t]

/-- The compare call's result is the comparison as bytes. -/
theorem WB_cmp (c : Dev nD) : WB m c (Proc.devRef .tc main_v3) = cmpArr m c :=
  (Pipeline.afterRegion_arr (datB (WA m) c) (WA m c) winFacts1.arr_inj 2).trans (arrB2 m c)

/-- A bit widened to a byte differs from zero exactly when it is one. -/
theorem bit_back (b : BitVec 1) : IntOp.cmpi .ne (BitVec.setWidth 8 b) 0#8 = b := by
  revert b; decide

/-- The result buffer ends holding the comparison bits. -/
theorem WEnd_value (c : Dev nD) : WEnd m c (Proc.devRef .tc main_v6) = (fun y => share (rotF (argR m c)) (hidF (argX m c)) (y 1) (y 2) (y 3) : Vec Ideal S1x12x2048x2048 .i1) := by
  have h := WB_cmp m c
  unfold WEnd
  generalize WB m c = W at h ⊢
  entry_read
  rw [h]
  funext y
  exact bit_back _

end Cert.KernelIdeal.Run
end
-- ==== Proof.ReferenceRun.lean ====
/-
  The reference's run: it ends with its arguments unchanged and its result one composed function of the two arguments.
-/
module

public import proofs.«01_k».proof.Defs
public import proofs.«01_k».proof.Proof.Gen.ReferenceIdeal
public import Idealize.ShloMosaic.Lib.Claim

@[expose] public section

set_option maxRecDepth 16384

noncomputable section

namespace Cert.ReferenceIdeal.Run

open Cert.ReferenceIdeal Cert.ReferenceIdeal.Gen
open Idealize.ShloMosaic Idealize.ShloMosaic.TcCoe
open Idealize.SL.Sem

/-- The sixty-four candidates of every head, hash and position: the rotated vectors beside their negations. -/
def cand (x : Vec Ideal S1x2048x768 .f32) (r : Vec Ideal S12x64x2x32 .f32) : Vec Ideal S1x12x2x2048x64 .f32 :=
  let v3 : Vec Ideal S1x12x2x2048x32 .f32 := transpose S1x12x2x2048x32 [3, 0, 1, 4, 2]
    (Host.dotGeneral (F := Ideal) (φ₁ := .f32) (φ₂ := .f32) dot_S12x64x2x32_S1x12x2048x64_S12x2x32x1x2048_1_3_23_02_0_1 none r
      (transpose S1x12x2048x64 [0, 2, 1, 3] (shapeCast S1x2048x12x64 x shapeCasts_S1x2048x768_S1x2048x12x64) transposes_S1x2048x12x64_S1x12x2048x64_0_2_1_3))
    transposes_S12x2x32x1x2048_S1x12x2x2048x32_3_0_1_4_2
  concatenate S1x12x2x2048x64 4 [⟨S1x12x2x2048x32, v3⟩, ⟨S1x12x2x2048x32, (Host.negf (F := Ideal) (φ := .f32) v3 : Vec Ideal S1x12x2x2048x32 .f32)⟩] concatenates_S1x12x2x2048x32_S1x12x2x2048x32_S1x12x2x2048x64_d4

/-- Each position's bucket, the number of its first largest candidate. -/
def bucket (x : Vec Ideal S1x2048x768 .f32) (r : Vec Ideal S12x64x2x32 .f32) : Vec Ideal S1x12x2x2048 .i32 := fun j =>
  (Host.argReduce (F := Ideal) reducer_argmax_f32_i32 (cand x r) (iotaInDim S1x12x2x2048x64 32 4) (constant S_ .f32 0xFF800000#32) (constantI S_ 32 0#32)
    reducesTo_S1x12x2x2048x64_S1x12x2x2048_d4 h_S_ j).2

/-- The result: whether two positions share a bucket in either hash. -/
def refOut (x : Vec Ideal S1x2048x768 .f32) (r : Vec Ideal S12x64x2x32 .f32) : Vec Ideal S1x12x2048x2048 .i1 :=
  let v7 : Vec Ideal S1x12x2048x2 .i32 := transpose S1x12x2048x2 [0, 1, 3, 2] (bucket x r) transposes_S1x12x2x2048_S1x12x2048x2_0_1_3_2
  Host.reduce IntOp.ori (cmpi .eq
      (broadcastInDim S1x12x2048x2048x2 ![0, 1, 2, 3, 4] bcast_S1x12x2048x1x2_S1x12x2048x2048x2_0_1_2_3_4 (broadcastInDim S1x12x2048x1x2 ![0, 1, 2, 4] bcast_S1x12x2048x2_S1x12x2048x1x2_0_1_2_4 v7))
      (broadcastInDim S1x12x2048x2048x2 ![0, 1, 2, 3, 4] bcast_S1x12x1x2048x2_S1x12x2048x2048x2_0_1_2_3_4 (broadcastInDim S1x12x1x2048x2 ![0, 1, 3, 4] bcast_S1x12x2048x2_S1x12x1x2048x2_0_1_3_4 v7)))
    (constantI S_ 1 0#1) reducesTo_S1x12x2048x2048x2_S1x12x2048x2048_d4 h_S_

set_option maxHeartbeats 1000000 in
/-- The reference's result is `refOut` of its arguments, which end unchanged. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v13) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl

/-- The reference ends with its arguments unchanged and, declaring no semaphore, every counter zero. -/
theorem frame_run : Cert.quiescent_ReferenceIdeal := by
  intro m g _
  exact (θ_run Cert.ReferenceIdeal.defs _ _).mono (fun r h => ⟨fun c => (h c).2,
      Idealize.ShloMosaic.sem_eq_zero_of_no_sems (by decide) r.2⟩) (run_value m g)

end Cert.ReferenceIdeal.Run

end
-- ==== Proof.ReferenceValue.lean ====
/-
  The reference's result read at an index.
-/
module

public import proofs.«01_k».proof.Proof.ReferenceRun
public import proofs.«01_k».proof.Proof.First

@[expose] public section

set_option maxRecDepth 16384

noncomputable section

namespace Cert.ReferenceIdeal.Run

open Cert.ReferenceIdeal Cert.ReferenceIdeal.Gen Cert.Bucket
open Idealize.ShloMosaic Idealize.ShloMosaic.TcCoe

/-- The rotations and the hidden vectors as families. -/
abbrev rotF (r : Vec Ideal S12x64x2x32 .f32) : Fin 12 → Fin 64 → Fin 2 → Fin 32 → EReal := fun h d k i => r (ix4 h d k i)
/-- The hidden states as a function of position and feature. -/
abbrev hidF (x : Vec Ideal S1x2048x768 .f32) : Fin 2048 → Fin 768 → EReal := fun t e => x (ix3 0 t e)

/-- The reference's candidates are the 64 candidates. -/
theorem cand_eq (x : Vec Ideal S1x2048x768 .f32) (r : Vec Ideal S12x64x2x32 .f32) (y : S1x12x2x2048x64.Idx) :
    cand x r y = candAt (rotF r) (hidF x) (y 1) (y 2) (y 3) (y 4) := by
  unfold candAt score
  pointwise [cand]

/-- The reference's choice between two pairs keeps one of them, which beats both. -/
theorem reducer_chooses : Chooses (reducer_argmax_f32_i32 (F := Ideal)) := by
  rintro ⟨a, i⟩ ⟨b, j⟩
  have hs : i.slt j = decide (i.toInt < j.toInt) := rfl
  rcases lt_trichotomy a b with h | h | h
  · have e : reducer_argmax_f32_i32 (F := Ideal) (a, i) (b, j) = (b, j) := by
      simp [reducer_argmax_f32_i32, Ideal.cmpf_def, Ideal.cmp, Scalar.select, IntOp.ori, IntOp.andi, IntOp.cmpi, not_lt.mpr h.le, h.ne]
    rw [e]; exact ⟨Or.inr rfl, Or.inl h, Beaten.refl _⟩
  · subst h
    by_cases hl : i.toInt < j.toInt
    · have e : reducer_argmax_f32_i32 (F := Ideal) (a, i) (a, j) = (a, i) := by
        simp [reducer_argmax_f32_i32, Ideal.cmpf_def, Ideal.cmp, Scalar.select, IntOp.ori, IntOp.andi, IntOp.cmpi, hs, hl]
      rw [e]; exact ⟨Or.inl rfl, Beaten.refl _, Or.inr ⟨rfl, hl.le⟩⟩
    · have e : reducer_argmax_f32_i32 (F := Ideal) (a, i) (a, j) = (a, j) := by
        simp [reducer_argmax_f32_i32, Ideal.cmpf_def, Ideal.cmp, Scalar.select, IntOp.ori, IntOp.andi, IntOp.cmpi, hs, hl]
      rw [e]; exact ⟨Or.inr rfl, Or.inr ⟨rfl, not_lt.mp hl⟩, Beaten.refl _⟩
  · have e : reducer_argmax_f32_i32 (F := Ideal) (a, i) (b, j) = (a, i) := by
      simp [reducer_argmax_f32_i32, Ideal.cmpf_def, Ideal.cmp, Scalar.select, IntOp.ori, IntOp.andi, IntOp.cmpi, h, h.ne']
    rw [e]; exact ⟨Or.inl rfl, Beaten.refl _, Or.inl h⟩

/-- Dropping the last axis of the candidates leaves the buckets' shape. -/
theorem reduces4 : S1x12x2x2048x64.Reduces [4] S1x12x2x2048 := by decide

/-- Along its last axis the candidates' array runs over the last coordinate. -/
theorem lift4 (j : S1x12x2x2048.Idx) (k : Fin 64) : reduces4.lift j k = ix5 (j 0) (j 1) (j 2) (j 3) k := by
  funext a
  apply Fin.ext
  refine (Shape.Reduces.lift_val _ _ _ _).trans ?_
  fin_cases a <;> rfl

/-- The word of negative infinity reads as the bottom. -/
theorem bot_word (i : S_.Idx) : (constant S_ .f32 0xFF800000#32 : FVec Ideal S_ .f32) i = (⊥ : EReal) := by
  show Ideal.ofBits .f32 0xFF800000#32 = ⊥
  simp [Ideal.ofBits, Ideal.ieee]

/-- The bucket is the index half of the arg-max. -/
theorem bucket_def (x : Vec Ideal S1x2048x768 .f32) (r : Vec Ideal S12x64x2x32 .f32) : bucket x r = fun j =>
    (Host.argReduce (F := Ideal) reducer_argmax_f32_i32 (cand x r) (iotaInDim S1x12x2x2048x64 32 4) (constant S_ .f32 0xFF800000#32) (constantI S_ 32 0#32)
      reducesTo_S1x12x2x2048x64_S1x12x2x2048_d4 h_S_ j).2 := rfl

/-- The reference's bucket is the number of the first largest candidate. -/
theorem bucket_eq (x : Vec Ideal S1x2048x768 .f32) (r : Vec Ideal S12x64x2x32 .f32) (j : S1x12x2x2048.Idx) :
    bucket x r j = BitVec.ofNat 32 (bucketAt (rotF r) (hidF x) (j 1) (j 2) (j 3)).val := by
  refine (congrFun (bucket_def x r) j).trans ?_
  refine argReduce_first reducer_chooses (cand x r) (iotaInDim S1x12x2x2048x64 32 4) _ _ bot_word (fun _ => rfl) _ reduces4 _ j
    (by omega) rfl (candAt (rotF r) (hidF x) (j 1) (j 2) (j 3)) (fun k => ?_) (fun k => ?_)
  · exact (congrArg (cand x r) (lift4 j k)).trans (cand_eq x r _)
  · exact (congrArg (iotaInDim S1x12x2x2048x64 32 4) (lift4 j k)).trans rfl

/-- Whether two positions share a bucket in either hash, from the buckets `b`. -/
def anyOf (b : IVec S1x12x2x2048 32) : IVec S1x12x2048x2048 1 :=
  Host.reduce IntOp.ori (cmpi .eq
      (broadcastInDim S1x12x2048x2048x2 ![0, 1, 2, 3, 4] bcast_S1x12x2048x1x2_S1x12x2048x2048x2_0_1_2_3_4 (broadcastInDim S1x12x2048x1x2 ![0, 1, 2, 4] bcast_S1x12x2048x2_S1x12x2048x1x2_0_1_2_4 (transpose S1x12x2048x2 [0, 1, 3, 2] b transposes_S1x12x2x2048_S1x12x2048x2_0_1_3_2)))
      (broadcastInDim S1x12x2048x2048x2 ![0, 1, 2, 3, 4] bcast_S1x12x1x2048x2_S1x12x2048x2048x2_0_1_2_3_4 (broadcastInDim S1x12x1x2048x2 ![0, 1, 3, 4] bcast_S1x12x2048x2_S1x12x1x2048x2_0_1_3_4 (transpose S1x12x2048x2 [0, 1, 3, 2] b transposes_S1x12x2x2048_S1x12x2048x2_0_1_3_2))))
    (constantI S_ 1 0#1) reducesTo_S1x12x2048x2048x2_S1x12x2048x2048_d4 h_S_

/-- The reference's result is the disjunction over the hashes of the buckets' equality. -/
theorem refOut_def (x : Vec Ideal S1x2048x768 .f32) (r : Vec Ideal S12x64x2x32 .f32) : refOut x r = anyOf (bucket x r) := rfl

/-- Or, over two bits. -/
theorem fold_or (a b : Fin 2 → BitVec 32) :
    (Finset.univ : Finset (Fin 2)).fold IntOp.ori 0#1 (fun k => IntOp.cmpi .eq (a k) (b k)) = BitVec.ofBool ((a 0 == b 0) || (a 1 == b 1)) := by
  rw [show (Finset.univ : Finset (Fin 2)) = {0, 1} from rfl, Finset.fold_insert (by simp), Finset.fold_singleton]
  unfold IntOp.cmpi
  simp only []
  cases (a 0 == b 0) <;> cases (a 1 == b 1) <;> rfl

/-- Or over the two hashes, as a bit. -/
theorem anyOf_eq (b : IVec S1x12x2x2048 32) (y : S1x12x2048x2048.Idx) :
    anyOf b y = BitVec.ofBool ((b (ix4 0 (y 1) 0 (y 2)) == b (ix4 0 (y 1) 0 (y 3))) || (b (ix4 0 (y 1) 1 (y 2)) == b (ix4 0 (y 1) 1 (y 3)))) := by
  pointwise [anyOf]
  exact fold_or _ _

/-- Two small numbers have the same word exactly when they are the same. -/
theorem word_beq {w : ℕ} (hw : 64 ≤ 2 ^ w) (a b : Fin (63 + 1)) : (BitVec.ofNat w a.val == BitVec.ofNat w b.val) = decide (a = b) := by
  by_cases h : a = b
  · subst h; simp
  · have : BitVec.ofNat w a.val ≠ BitVec.ofNat w b.val := by
      intro e
      have e' := congrArg BitVec.toNat e
      rw [BitVec.toNat_ofNat, BitVec.toNat_ofNat, Nat.mod_eq_of_lt (by have := a.isLt; omega), Nat.mod_eq_of_lt (by have := b.isLt; omega)] at e'
      exact h (Fin.ext e')
    simp [h, this]

/-- The reference's result at an index. -/
theorem refOut_eq (x : Vec Ideal S1x2048x768 .f32) (r : Vec Ideal S12x64x2x32 .f32) (y : S1x12x2048x2048.Idx) :
    refOut x r y = share (rotF r) (hidF x) (y 1) (y 2) (y 3) := by
  rw [refOut_def, anyOf_eq, bucket_eq, bucket_eq, bucket_eq, bucket_eq]
  unfold share
  rw [← word_beq (w := 32) (by norm_num), ← word_beq (w := 32) (by norm_num)]
  rfl

end Cert.ReferenceIdeal.Run
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KernelRun
public import proofs.«01_k».proof.Proof.KernelIdealRun
public import proofs.«01_k».proof.Proof.KernelValue
public import proofs.«01_k».proof.Proof.ReferenceRun
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- From the same arguments the kernel and the reference leave the same array: at head `h` and positions `t`, `u`
the bit that says whether the two positions share a bucket of `h` under either hash. -/
theorem same_result : Cert.algebraic_KernelIdeal_ReferenceIdeal := by
  intro m g m' g' _ hagree
  refine ⟨fun c => Cert.KernelIdeal.Run.WEnd m c (Proc.devRef .tc Cert.KernelIdeal.main_v6),
    (θ_run Cert.KernelIdeal.defs _ _).mono (fun r h c => ⟨(h.1 c).2.2, (h.1 c).1, (h.1 c).2.1⟩) (Cert.KernelIdeal.Run.run_result m g),
    (θ_run Cert.ReferenceIdeal.defs _ _).mono (fun r h c => ⟨(h c).1.trans ?_, (h c).2.1, (h c).2.2⟩) (Cert.ReferenceIdeal.Run.run_value m' g')⟩
  refine Eq.trans ?_ (Cert.KernelIdeal.Run.WEnd_value m c).symm
  rw [(hagree c).1, (hagree c).2]
  funext y
  exact Cert.ReferenceIdeal.Run.refOut_eq _ _ y

/-- The two kernels' frames, the reference's, and the equality of the kernel's result and the reference's. -/
theorem claim : Cert.Claim := ⟨Cert.Kernel.Gen.facts, Cert.KernelIdeal.Gen.facts, Cert.ReferenceIdeal.Gen.facts,
  fun m g _ => Cert.Kernel.Run.frame_run m g, fun m g _ => Cert.KernelIdeal.Run.frame_run m g,
  Cert.ReferenceIdeal.Run.frame_run, trivial, same_result⟩

end Cert.Proof

end
